-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv_hw" .f32 0x37A72F05#32 ((50176⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x3x224x224 : Shape := ⟨4, ![64, 3, 224, 224]⟩
abbrev S64x3x3x3 : Shape := ⟨4, ![64, 3, 3, 3]⟩
abbrev S64 : Shape := ⟨1, ![64]⟩
abbrev S4x128 : Shape := ⟨2, ![4, 128]⟩
abbrev S128 : Shape := ⟨1, ![128]⟩
abbrev S256x128 : Shape := ⟨2, ![256, 128]⟩
abbrev S128x50 : Shape := ⟨2, ![128, 50]⟩
abbrev S50 : Shape := ⟨1, ![50]⟩
abbrev S8x24x3 : Shape := ⟨3, ![8, 24, 3]⟩
abbrev S8x24x64x3x3 : Shape := ⟨5, ![8, 24, 64, 3, 3]⟩
abbrev S8x64x3x3x24 : Shape := ⟨5, ![8, 64, 3, 3, 24]⟩
abbrev S512x216 : Shape := ⟨2, ![512, 216]⟩
abbrev S1x64 : Shape := ⟨2, ![1, 64]⟩
abbrev S8x64 : Shape := ⟨2, ![8, 64]⟩
abbrev S512 : Shape := ⟨1, ![512]⟩
abbrev S512x1 : Shape := ⟨2, ![512, 1]⟩
abbrev S512x217 : Shape := ⟨2, ![512, 217]⟩
abbrev S64x64x1 : Shape := ⟨3, ![64, 64, 1]⟩
abbrev S2x3x224x224 : Shape := ⟨4, ![2, 3, 224, 224]⟩
abbrev S2x64x1 : Shape := ⟨3, ![2, 64, 1]⟩
abbrev S2x3x248x384 : Shape := ⟨4, ![2, 3, 248, 384]⟩
abbrev S1x3x224x224 : Shape := ⟨4, ![1, 3, 224, 224]⟩
abbrev S3x224x224 : Shape := ⟨3, ![3, 224, 224]⟩
abbrev S1x256 : Shape := ⟨2, ![1, 256]⟩
abbrev S64x256 : Shape := ⟨2, ![64, 256]⟩
abbrev S1x3x24x384 : Shape := ⟨4, ![1, 3, 24, 384]⟩
abbrev S3x24x384 : Shape := ⟨3, ![3, 24, 384]⟩
abbrev S3x24x256 : Shape := ⟨3, ![3, 24, 256]⟩
abbrev S72x256 : Shape := ⟨2, ![72, 256]⟩
abbrev S217x256 : Shape := ⟨2, ![217, 256]⟩
abbrev S512x256 : Shape := ⟨2, ![512, 256]⟩
abbrev S8x64x256 : Shape := ⟨3, ![8, 64, 256]⟩
abbrev S64x1 : Shape := ⟨2, ![64, 1]⟩
abbrev S1x64x1 : Shape := ⟨3, ![1, 64, 1]⟩
abbrev S64x16x4 : Shape := ⟨3, ![64, 16, 4]⟩
abbrev S16x64x4 : Shape := ⟨3, ![16, 64, 4]⟩
abbrev S1024x4 : Shape := ⟨2, ![1024, 4]⟩
abbrev S16 : Shape := ⟨1, ![16]⟩
abbrev S1x16 : Shape := ⟨2, ![1, 16]⟩
abbrev S16x1 : Shape := ⟨2, ![16, 1]⟩
abbrev S16x16 : Shape := ⟨2, ![16, 16]⟩
abbrev S_ : Shape := ⟨0, ![]⟩
abbrev S64x64 : Shape := ⟨2, ![64, 64]⟩
abbrev S16x1x16x1 : Shape := ⟨4, ![16, 1, 16, 1]⟩
abbrev S1x64x1x64 : Shape := ⟨4, ![1, 64, 1, 64]⟩
abbrev S16x64x16x64 : Shape := ⟨4, ![16, 64, 16, 64]⟩
abbrev S1024x1024 : Shape := ⟨2, ![1024, 1024]⟩
abbrev S1x1x16x1 : Shape := ⟨4, ![1, 1, 16, 1]⟩
abbrev S1x64x16x64 : Shape := ⟨4, ![1, 64, 16, 64]⟩
abbrev S64x1024 : Shape := ⟨2, ![64, 1024]⟩
abbrev S1x128 : Shape := ⟨2, ![1, 128]⟩
abbrev S1x50 : Shape := ⟨2, ![1, 50]⟩
abbrev S64x50 : Shape := ⟨2, ![64, 50]⟩
abbrev S1024x128 : Shape := ⟨2, ![1024, 128]⟩
abbrev S1024x256 : Shape := ⟨2, ![1024, 256]⟩
abbrev S64x128 : Shape := ⟨2, ![64, 128]⟩

abbrev nBuf : Space → Nat
  | .hbm => 97
  | .vmem => 19
  | .smem => 0
  | _ => 0

abbrev bufTy : (tb : Table) → Fin (tcTables nBuf tb) → BufTy
  | .hbm, ⟨0, _⟩ => ⟨S64x3x224x224, .f32⟩
  | .hbm, ⟨1, _⟩ => ⟨S64x3x3x3, .f32⟩
  | .hbm, ⟨2, _⟩ => ⟨S64, .f32⟩
  | .hbm, ⟨3, _⟩ => ⟨S4x128, .f32⟩
  | .hbm, ⟨4, _⟩ => ⟨S128, .f32⟩
  | .hbm, ⟨5, _⟩ => ⟨S4x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x50, .f32⟩
  | .hbm, ⟨10, _⟩ => ⟨S50, .f32⟩
  | .hbm, ⟨11, _⟩ => ⟨S8x24x3, .f32⟩
  | .hbm, ⟨12, _⟩ => ⟨S8x24x64x3x3, .f32⟩
  | .hbm, ⟨13, _⟩ => ⟨S8x64x3x3x24, .f32⟩
  | .hbm, ⟨14, _⟩ => ⟨S512x216, .f32⟩
  | .hbm, ⟨15, _⟩ => ⟨S1x64, .f32⟩
  | .hbm, ⟨16, _⟩ => ⟨S8x64, .f32⟩
  | .hbm, ⟨17, _⟩ => ⟨S512, .f32⟩
  | .hbm, ⟨18, _⟩ => ⟨S512x1, .f32⟩
  | .hbm, ⟨19, _⟩ => ⟨S512x217, .f32⟩
  | .hbm, ⟨20, _⟩ => ⟨S512x217, .bf16⟩
  | .hbm, ⟨21, _⟩ => ⟨S64x64x1, .f32⟩
  | .hbm, ⟨22, _⟩ => ⟨S64x16x4, .f32⟩
  | .hbm, ⟨23, _⟩ => ⟨S16x64x4, .f32⟩
  | .hbm, ⟨24, _⟩ => ⟨S1024x4, .f32⟩
  | .hbm, ⟨25, _⟩ => ⟨S16, .i32⟩
  | .hbm, ⟨26, _⟩ => ⟨S1x16, .i32⟩
  | .hbm, ⟨27, _⟩ => ⟨S16x1, .i32⟩
  | .hbm, ⟨28, _⟩ => ⟨S16x16, .i32⟩
  | .hbm, ⟨29, _⟩ => ⟨S16x16, .i32⟩
  | .hbm, ⟨30, _⟩ => ⟨S16x16, .i1⟩
  | .hbm, ⟨31, _⟩ => ⟨S_, .i32⟩
  | .hbm, ⟨32, _⟩ => ⟨S16, .i32⟩
  | .hbm, ⟨33, _⟩ => ⟨S16, .i32⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S16, .f32⟩
  | .hbm, ⟨38, _⟩ => ⟨S16x1, .f32⟩
  | .hbm, ⟨39, _⟩ => ⟨S_, .f32⟩
  | .hbm, ⟨40, _⟩ => ⟨S16x1, .f32⟩
  | .hbm, ⟨41, _⟩ => ⟨S16x1, .f32⟩
  | .hbm, ⟨42, _⟩ => ⟨S_, .f32⟩
  | .hbm, ⟨43, _⟩ => ⟨S_, .f32⟩
  | .hbm, ⟨44, _⟩ => ⟨S16x16, .f32⟩
  | .hbm, ⟨45, _⟩ => ⟨S16x16, .f32⟩
  | .hbm, ⟨46, _⟩ => ⟨S16x16, .f32⟩
  | .hbm, ⟨47, _⟩ => ⟨S1x16, .i32⟩
  | .hbm, ⟨48, _⟩ => ⟨S16x1, .i32⟩
  | .hbm, ⟨49, _⟩ => ⟨S16x16, .i32⟩
  | .hbm, ⟨50, _⟩ => ⟨S16x16, .i32⟩
  | .hbm, ⟨51, _⟩ => ⟨S16x16, .i1⟩
  | .hbm, ⟨52, _⟩ => ⟨S_, .i32⟩
  | .hbm, ⟨53, _⟩ => ⟨S16, .i32⟩
  | .hbm, ⟨54, _⟩ => ⟨S16, .i32⟩
  | .hbm, ⟨55, _⟩ => ⟨S16, .f32⟩
  | .hbm, ⟨56, _⟩ => ⟨S16x1, .f32⟩
  | .hbm, ⟨57, _⟩ => ⟨S_, .f32⟩
  | .hbm, ⟨58, _⟩ => ⟨S16x1, .f32⟩
  | .hbm, ⟨59, _⟩ => ⟨S16x1, .f32⟩
  | .hbm, ⟨60, _⟩ => ⟨S_, .f32⟩
  | .hbm, ⟨61, _⟩ => ⟨S_, .f32⟩
  | .hbm, ⟨62, _⟩ => ⟨S16x16, .f32⟩
  | .hbm, ⟨63, _⟩ => ⟨S16x16, .f32⟩
  | .hbm, ⟨64, _⟩ => ⟨S16x16, .f32⟩
  | .hbm, ⟨65, _⟩ => ⟨S64x64, .i32⟩
  | .hbm, ⟨66, _⟩ => ⟨S64x64, .i32⟩
  | .hbm, ⟨67, _⟩ => ⟨S_, .i32⟩
  | .hbm, ⟨68, _⟩ => ⟨S64x64, .i32⟩
  | .hbm, ⟨69, _⟩ => ⟨S64x64, .i32⟩
  | .hbm, ⟨70, _⟩ => ⟨S64x64, .i1⟩
  | .hbm, ⟨71, _⟩ => ⟨S64x64, .f32⟩
  | .hbm, ⟨72, _⟩ => ⟨S16x1x16x1, .f32⟩
  | .hbm, ⟨73, _⟩ => ⟨S1x64x1x64, .f32⟩
  | .hbm, ⟨74, _⟩ => ⟨S16x64x16x64, .f32⟩
  | .hbm, ⟨75, _⟩ => ⟨S16x64x16x64, .f32⟩
  | .hbm, ⟨76, _⟩ => ⟨S16x64x16x64, .f32⟩
  | .hbm, ⟨77, _⟩ => ⟨S1024x1024, .f32⟩
  | .hbm, ⟨78, _⟩ => ⟨S16x1x16x1, .f32⟩
  | .hbm, ⟨79, _⟩ => ⟨S1x64x1x64, .f32⟩
  | .hbm, ⟨80, _⟩ => ⟨S16x64x16x64, .f32⟩
  | .hbm, ⟨81, _⟩ => ⟨S16x64x16x64, .f32⟩
  | .hbm, ⟨82, _⟩ => ⟨S16x64x16x64, .f32⟩
  | .hbm, ⟨83, _⟩ => ⟨S1024x1024, .f32⟩
  | .hbm, ⟨84, _⟩ => ⟨S_, .f32⟩
  | .hbm, ⟨85, _⟩ => ⟨S1x16, .f32⟩
  | .hbm, ⟨86, _⟩ => ⟨S1x1x16x1, .f32⟩
  | .hbm, ⟨87, _⟩ => ⟨S1x64x1x64, .f32⟩
  | .hbm, ⟨88, _⟩ => ⟨S1x64x16x64, .f32⟩
  | .hbm, ⟨89, _⟩ => ⟨S1x64x16x64, .f32⟩
  | .hbm, ⟨90, _⟩ => ⟨S1x64x16x64, .f32⟩
  | .hbm, ⟨91, _⟩ => ⟨S64x1024, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x50, .f32⟩
  | .hbm, ⟨96, _⟩ => ⟨S64x50, .f32⟩
  | .local _ .vmem, ⟨0, _⟩ => ⟨S2x3x224x224, .f32⟩
  | .local _ .vmem, ⟨1, _⟩ => ⟨S2x3x224x224, .f32⟩
  | .local _ .vmem, ⟨2, _⟩ => ⟨S512x217, .bf16⟩
  | .local _ .vmem, ⟨3, _⟩ => ⟨S2x64x1, .f32⟩
  | .local _ .vmem, ⟨4, _⟩ => ⟨S2x64x1, .f32⟩
  | .local _ .vmem, ⟨5, _⟩ => ⟨S2x3x248x384, .bf16⟩
  | .local _ .vmem, ⟨6, _⟩ => ⟨S1024x4, .f32⟩
  | .local _ .vmem, ⟨7, _⟩ => ⟨S1024x1024, .f32⟩
  | .local _ .vmem, ⟨8, _⟩ => ⟨S1024x1024, .f32⟩
  | .local _ .vmem, ⟨9, _⟩ => ⟨S64x1024, .f32⟩
  | .local _ .vmem, ⟨10, _⟩ => ⟨S4x128, .f32⟩
  | .local _ .vmem, ⟨11, _⟩ => ⟨S1x128, .f32⟩
  | .local _ .vmem, ⟨12, _⟩ => ⟨S4x128, .f32⟩
  | .local _ .vmem, ⟨13, _⟩ => ⟨S1x128, .f32⟩
  | .local _ .vmem, ⟨14, _⟩ => ⟨S256x128, .f32⟩
  | .local _ .vmem, ⟨15, _⟩ => ⟨S1x128, .f32⟩
  | .local _ .vmem, ⟨16, _⟩ => ⟨S128x50, .f32⟩
  | .local _ .vmem, ⟨17, _⟩ => ⟨S1x50, .f32⟩
  | .local _ .vmem, ⟨18, _⟩ => ⟨S64x50, .f32⟩
  | _, _ => ⟨S64x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v46 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_v47 : Ref sig .tc := ⟨.hbm, 83, rfl⟩
abbrev main_cst_7 : Ref sig .tc := ⟨.hbm, 84, rfl⟩
abbrev main_v48 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg12_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x217 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .vmem S1024x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S4x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S256x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S128x50 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1x50 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S64x50 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
-- ==== KernelIdeal.lean ====
variable {F : FTy → Type} [FloatOps F] [Named F]
def κ : String → Option EReal := fun
  | "inv_hw" => some ((50176⁻¹ : ℝ) : EReal)
  | _ => none
-- ==== ReferenceIdeal.lean ====
abbrev S64x3x224x224 : Shape := ⟨4, ![64, 3, 224, 224]⟩
abbrev S64x3x3x3 : Shape := ⟨4, ![64, 3, 3, 3]⟩
abbrev S64 : Shape := ⟨1, ![64]⟩
abbrev S4x128 : Shape := ⟨2, ![4, 128]⟩
abbrev S128 : Shape := ⟨1, ![128]⟩
abbrev S256x128 : Shape := ⟨2, ![256, 128]⟩
abbrev S128x50 : Shape := ⟨2, ![128, 50]⟩
abbrev S50 : Shape := ⟨1, ![50]⟩
abbrev S120 : Shape := ⟨1, ![120]⟩
abbrev S_ : Shape := ⟨0, ![]⟩
abbrev S64x3x226x226 : Shape := ⟨4, ![64, 3, 226, 226]⟩
abbrev S64x64x224x224 : Shape := ⟨4, ![64, 64, 224, 224]⟩
abbrev S64x3x1x1 : Shape := ⟨4, ![64, 3, 1, 1]⟩
abbrev S64x3 : Shape := ⟨2, ![64, 3]⟩
abbrev S64x224x224x64 : Shape := ⟨4, ![64, 224, 224, 64]⟩
abbrev S1x64x1x1 : Shape := ⟨4, ![1, 64, 1, 1]⟩
abbrev S64x64 : Shape := ⟨2, ![64, 64]⟩
abbrev S1024x4 : Shape := ⟨2, ![1024, 4]⟩
abbrev S64x120 : Shape := ⟨2, ![64, 120]⟩
abbrev S7680 : Shape := ⟨1, ![7680]⟩
abbrev S1x120 : Shape := ⟨2, ![1, 120]⟩
abbrev S7680x1 : Shape := ⟨2, ![7680, 1]⟩
abbrev S7680x4 : Shape := ⟨2, ![7680, 4]⟩
abbrev S1024 : Shape := ⟨1, ![1024]⟩
abbrev S1024x1 : Shape := ⟨2, ![1024, 1]⟩
abbrev S1024x128 : Shape := ⟨2, ![1024, 128]⟩
abbrev S1x128 : Shape := ⟨2, ![1, 128]⟩
abbrev S1024x256 : Shape := ⟨2, ![1024, 256]⟩
abbrev S7680x256 : Shape := ⟨2, ![7680, 256]⟩
abbrev S64x16 : Shape := ⟨2, ![64, 16]⟩
abbrev S64x128 : Shape := ⟨2, ![64, 128]⟩
abbrev S64x1 : Shape := ⟨2, ![64, 1]⟩
abbrev S64x50 : Shape := ⟨2, ![64, 50]⟩
abbrev S1x50 : Shape := ⟨2, ![1, 50]⟩

abbrev nBuf : Space → Nat
  | .hbm => 222
  | .vmem => 0
  | .smem => 0
  | _ => 0

abbrev hbmTy0_0 (i : Nat) : BufTy := match i % 128 with
  | 0 => ⟨S64x3x224x224, .f32⟩
  | 1 => ⟨S64x3x3x3, .f32⟩
  | 2 => ⟨S64, .f32⟩
  | 3 => ⟨S4x128, .f32⟩
  | 4 => ⟨S128, .f32⟩
  | 5 => ⟨S4x128, .f32⟩
  | 6 => ⟨S128, .f32⟩
  | 7 => ⟨S256x128, .f32⟩
  | 8 => ⟨S128, .f32⟩
  | 9 => ⟨S128x50, .f32⟩
  | 10 => ⟨S50, .f32⟩
  | 11 => ⟨S120, .i32⟩
  | 12 => ⟨S120, .i32⟩
  | 13 => ⟨S_, .i32⟩
  | 14 => ⟨S_, .f32⟩
  | 15 => ⟨S64x3x226x226, .f32⟩
  | 16 => ⟨S_, .f32⟩
  | 17 => ⟨S64x64x224x224, .f32⟩
  | 18 => ⟨S64x3x1x1, .f32⟩
  | 19 => ⟨S64x3, .f32⟩
  | 20 => ⟨S64x3x224x224, .f32⟩
  | 21 => ⟨S64x224x224x64, .f32⟩
  | 22 => ⟨S64x64x224x224, .f32⟩
  | 23 => ⟨S64x64x224x224, .f32⟩
  | 24 => ⟨S64x3x1x1, .f32⟩
  | 25 => ⟨S64x3, .f32⟩
  | 26 => ⟨S64x3x224x224, .f32⟩
  | 27 => ⟨S64x224x224x64, .f32⟩
  | 28 => ⟨S64x64x224x224, .f32⟩
  | 29 => ⟨S64x64x224x224, .f32⟩
  | 30 => ⟨S64x3x1x1, .f32⟩
  | 31 => ⟨S64x3, .f32⟩
  | 32 => ⟨S64x3x224x224, .f32⟩
  | 33 => ⟨S64x224x224x64, .f32⟩
  | 34 => ⟨S64x64x224x224, .f32⟩
  | 35 => ⟨S64x64x224x224, .f32⟩
  | 36 => ⟨S64x3x1x1, .f32⟩
  | 37 => ⟨S64x3, .f32⟩
  | 38 => ⟨S64x3x224x224, .f32⟩
  | 39 => ⟨S64x224x224x64, .f32⟩
  | 40 => ⟨S64x64x224x224, .f32⟩
  | 41 => ⟨S64x64x224x224, .f32⟩
  | 42 => ⟨S64x3x1x1, .f32⟩
  | 43 => ⟨S64x3, .f32⟩
  | 44 => ⟨S64x3x224x224, .f32⟩
  | 45 => ⟨S64x224x224x64, .f32⟩
  | 46 => ⟨S64x64x224x224, .f32⟩
  | 47 => ⟨S64x64x224x224, .f32⟩
  | 48 => ⟨S64x3x1x1, .f32⟩
  | 49 => ⟨S64x3, .f32⟩
  | 50 => ⟨S64x3x224x224, .f32⟩
  | 51 => ⟨S64x224x224x64, .f32⟩
  | 52 => ⟨S64x64x224x224, .f32⟩
  | 53 => ⟨S64x64x224x224, .f32⟩
  | 54 => ⟨S64x3x1x1, .f32⟩
  | 55 => ⟨S64x3, .f32⟩
  | 56 => ⟨S64x3x224x224, .f32⟩
  | 57 => ⟨S64x224x224x64, .f32⟩
  | 58 => ⟨S64x64x224x224, .f32⟩
  | 59 => ⟨S64x64x224x224, .f32⟩
  | 60 => ⟨S64x3x1x1, .f32⟩
  | 61 => ⟨S64x3, .f32⟩
  | 62 => ⟨S64x3x224x224, .f32⟩
  | 63 => ⟨S64x224x224x64, .f32⟩
  | 64 => ⟨S64x64x224x224, .f32⟩
  | 65 => ⟨S64x64x224x224, .f32⟩
  | 66 => ⟨S64x3x1x1, .f32⟩
  | 67 => ⟨S64x3, .f32⟩
  | 68 => ⟨S64x3x224x224, .f32⟩
  | 69 => ⟨S64x224x224x64, .f32⟩
  | 70 => ⟨S64x64x224x224, .f32⟩
  | 71 => ⟨S64x64x224x224, .f32⟩
  | 72 => ⟨S1x64x1x1, .f32⟩
  | 73 => ⟨S64x64x224x224, .f32⟩
  | 74 => ⟨S64x64x224x224, .f32⟩
  | 75 => ⟨S_, .f32⟩
  | 76 => ⟨S64x64x224x224, .f32⟩
  | 77 => ⟨S64x64x224x224, .f32⟩
  | 78 => ⟨S_, .f32⟩
  | 79 => ⟨S64x64, .f32⟩
  | 80 => ⟨S_, .f32⟩
  | 81 => ⟨S64x64, .f32⟩
  | 82 => ⟨S64x64, .f32⟩
  | 83 => ⟨S1024x4, .f32⟩
  | 84 => ⟨S64, .i32⟩
  | 85 => ⟨S_, .i32⟩
  | 86 => ⟨S64, .i32⟩
  | 87 => ⟨S64, .i32⟩
  | 88 => ⟨S64x120, .i32⟩
  | 89 => ⟨S7680, .i32⟩
  | 90 => ⟨S1x120, .i32⟩
  | 91 => ⟨S64x120, .i32⟩
  | 92 => ⟨S7680, .i32⟩
  | 93 => ⟨S7680, .i32⟩
  | 94 => ⟨S1x120, .i32⟩
  | 95 => ⟨S64x120, .i32⟩
  | 96 => ⟨S7680, .i32⟩
  | 97 => ⟨S7680, .i32⟩
  | 98 => ⟨S_, .i32⟩
  | 99 => ⟨S7680, .i32⟩
  | 100 => ⟨S7680, .i1⟩
  | 101 => ⟨S_, .i32⟩
  | 102 => ⟨S7680, .i32⟩
  | 103 => ⟨S7680, .i32⟩
  | 104 => ⟨S7680, .i32⟩
  | 105 => ⟨S7680x1, .i32⟩
  | 106 => ⟨S7680x4, .f32⟩
  | 107 => ⟨S_, .f32⟩
  | 108 => ⟨S1024x4, .f32⟩
  | 109 => ⟨S7680x1, .i32⟩
  | 110 => ⟨S1024x4, .f32⟩
  | 111 => ⟨S_, .f32⟩
  | 112 => ⟨S7680, .f32⟩
  | 113 => ⟨S_, .f32⟩
  | 114 => ⟨S1024, .f32⟩
  | 115 => ⟨S7680x1, .i32⟩
  | 116 => ⟨S1024, .f32⟩
  | 117 => ⟨S_, .f32⟩
  | 118 => ⟨S_, .f32⟩
  | 119 => ⟨S1024, .f32⟩
  | 120 => ⟨S1024, .f32⟩
  | 121 => ⟨S1024x1, .f32⟩
  | 122 => ⟨S1024x4, .f32⟩
  | 123 => ⟨S1024x4, .f32⟩
  | 124 => ⟨S1024x128, .f32⟩
  | 125 => ⟨S1x128, .f32⟩
  | 126 => ⟨S1024x128, .f32⟩
  | 127 => ⟨S1024x128, .f32⟩
  | _ => ⟨S64x3x224x224, .f32⟩

abbrev hbmTy0_1 (i : Nat) : BufTy := match i % 128 with
  | 0 => ⟨S_, .f32⟩
  | 1 => ⟨S1024x128, .f32⟩
  | 2 => ⟨S1024x128, .f32⟩
  | 3 => ⟨S_, .i32⟩
  | 4 => ⟨S7680, .i32⟩
  | 5 => ⟨S7680, .i1⟩
  | 6 => ⟨S_, .i32⟩
  | 7 => ⟨S7680, .i32⟩
  | 8 => ⟨S7680, .i32⟩
  | 9 => ⟨S7680, .i32⟩
  | 10 => ⟨S7680x1, .i32⟩
  | 11 => ⟨S7680x4, .f32⟩
  | 12 => ⟨S_, .f32⟩
  | 13 => ⟨S1024x4, .f32⟩
  | 14 => ⟨S7680x1, .i32⟩
  | 15 => ⟨S1024x4, .f32⟩
  | 16 => ⟨S_, .f32⟩
  | 17 => ⟨S7680, .f32⟩
  | 18 => ⟨S_, .f32⟩
  | 19 => ⟨S1024, .f32⟩
  | 20 => ⟨S7680x1, .i32⟩
  | 21 => ⟨S1024, .f32⟩
  | 22 => ⟨S_, .f32⟩
  | 23 => ⟨S_, .f32⟩
  | 24 => ⟨S1024, .f32⟩
  | 25 => ⟨S1024, .f32⟩
  | 26 => ⟨S1024x1, .f32⟩
  | 27 => ⟨S1024x4, .f32⟩
  | 28 => ⟨S1024x4, .f32⟩
  | 29 => ⟨S1024x128, .f32⟩
  | 30 => ⟨S1x128, .f32⟩
  | 31 => ⟨S1024x128, .f32⟩
  | 32 => ⟨S1024x128, .f32⟩
  | 33 => ⟨S_, .f32⟩
  | 34 => ⟨S1024x128, .f32⟩
  | 35 => ⟨S1024x128, .f32⟩
  | 36 => ⟨S1024x256, .f32⟩
  | 37 => ⟨S_, .i32⟩
  | 38 => ⟨S7680, .i32⟩
  | 39 => ⟨S7680, .i1⟩
  | 40 => ⟨S_, .i32⟩
  | 41 => ⟨S7680, .i32⟩
  | 42 => ⟨S7680, .i32⟩
  | 43 => ⟨S7680, .i32⟩
  | 44 => ⟨S7680x1, .i32⟩
  | 45 => ⟨S7680x256, .f32⟩
  | 46 => ⟨S_, .f32⟩
  | 47 => ⟨S1024x256, .f32⟩
  | 48 => ⟨S7680x1, .i32⟩
  | 49 => ⟨S1024x256, .f32⟩
  | 50 => ⟨S_, .f32⟩
  | 51 => ⟨S7680, .f32⟩
  | 52 => ⟨S_, .f32⟩
  | 53 => ⟨S1024, .f32⟩
  | 54 => ⟨S7680x1, .i32⟩
  | 55 => ⟨S1024, .f32⟩
  | 56 => ⟨S_, .f32⟩
  | 57 => ⟨S_, .f32⟩
  | 58 => ⟨S1024, .f32⟩
  | 59 => ⟨S1024, .f32⟩
  | 60 => ⟨S1024x1, .f32⟩
  | 61 => ⟨S1024x256, .f32⟩
  | 62 => ⟨S1024x256, .f32⟩
  | 63 => ⟨S1024x128, .f32⟩
  | 64 => ⟨S1x128, .f32⟩
  | 65 => ⟨S1024x128, .f32⟩
  | 66 => ⟨S1024x128, .f32⟩
  | 67 => ⟨S_, .f32⟩
  | 68 => ⟨S1024x128, .f32⟩
  | 69 => ⟨S1024x128, .f32⟩
  | 70 => ⟨S64, .i32⟩
  | 71 => ⟨S64x16, .i32⟩
  | 72 => ⟨S1024, .i32⟩
  | 73 => ⟨S_, .f32⟩
  | 74 => ⟨S64x128, .f32⟩
  | 75 => ⟨S1024x1, .i32⟩
  | 76 => ⟨S64x128, .f32⟩
  | 77 => ⟨S_, .f32⟩
  | 78 => ⟨S1024, .f32⟩
  | 79 => ⟨S_, .f32⟩
  | 80 => ⟨S64, .f32⟩
  | 81 => ⟨S1024x1, .i32⟩
  | 82 => ⟨S64, .f32⟩
  | 83 => ⟨S_, .f32⟩
  | 84 => ⟨S_, .f32⟩
  | 85 => ⟨S64, .f32⟩
  | 86 => ⟨S64, .f32⟩
  | 87 => ⟨S64x1, .f32⟩
  | 88 => ⟨S64x128, .f32⟩
  | 89 => ⟨S64x128, .f32⟩
  | 90 => ⟨S64x50, .f32⟩
  | 91 => ⟨S1x50, .f32⟩
  | 92 => ⟨S64x50, .f32⟩
  | 93 => ⟨S64x50, .f32⟩
  | _ => ⟨S64x3x224x224, .f32⟩

abbrev hbmTy (i : Nat) : BufTy := match i / 128 with
  | 0 => hbmTy0_0 i
  | 1 => hbmTy0_1 i
  | _ => ⟨S64x3x224x224, .f32⟩

abbrev bufTy : (tb : Table) → Fin (tcTables nBuf tb) → BufTy
  | .hbm, ⟨i, _⟩ => hbmTy i
  | _, _ => ⟨S64x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_call1_cst : Ref sig .tc := ⟨.hbm, 75, rfl⟩
abbrev main_call1_v0 : Ref sig .tc := ⟨.hbm, 76, rfl⟩
abbrev main_v59 : Ref sig .tc := ⟨.hbm, 77, rfl⟩
abbrev main_cst_2 : Ref sig .tc := ⟨.hbm, 78, rfl⟩
abbrev main_v60 : Ref sig .tc := ⟨.hbm, 79, rfl⟩
abbrev main_cst_3 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_4 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_c_5 : Ref sig .tc := ⟨.hbm, 98, rfl⟩
abbrev main_v77 : Ref sig .tc := ⟨.hbm, 99, rfl⟩
abbrev main_v78 : Ref sig .tc := ⟨.hbm, 100, rfl⟩
abbrev main_c_6 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_7 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_8 : Ref sig .tc := ⟨.hbm, 111, rfl⟩
abbrev main_v87 : Ref sig .tc := ⟨.hbm, 112, rfl⟩
abbrev main_cst_9 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_10 : Ref sig .tc := ⟨.hbm, 117, rfl⟩
abbrev main_call2_v0 : Ref sig .tc := ⟨.hbm, 118, rfl⟩
abbrev main_call2_v1 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_call3_cst : Ref sig .tc := ⟨.hbm, 128, rfl⟩
abbrev main_call3_v0 : Ref sig .tc := ⟨.hbm, 129, rfl⟩
abbrev main_v99 : Ref sig .tc := ⟨.hbm, 130, rfl⟩
abbrev main_c_11 : Ref sig .tc := ⟨.hbm, 131, rfl⟩
abbrev main_v100 : Ref sig .tc := ⟨.hbm, 132, rfl⟩
abbrev main_v101 : Ref sig .tc := ⟨.hbm, 133, rfl⟩
abbrev main_c_12 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_13 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_14 : Ref sig .tc := ⟨.hbm, 144, rfl⟩
abbrev main_v110 : Ref sig .tc := ⟨.hbm, 145, rfl⟩
abbrev main_cst_15 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_16 : Ref sig .tc := ⟨.hbm, 150, rfl⟩
abbrev main_call4_v0 : Ref sig .tc := ⟨.hbm, 151, rfl⟩
abbrev main_call4_v1 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_call5_cst : Ref sig .tc := ⟨.hbm, 161, rfl⟩
abbrev main_call5_v0 : Ref sig .tc := ⟨.hbm, 162, rfl⟩
abbrev main_v122 : Ref sig .tc := ⟨.hbm, 163, rfl⟩
abbrev main_v123 : Ref sig .tc := ⟨.hbm, 164, rfl⟩
abbrev main_c_17 : Ref sig .tc := ⟨.hbm, 165, rfl⟩
abbrev main_v124 : Ref sig .tc := ⟨.hbm, 166, rfl⟩
abbrev main_v125 : Ref sig .tc := ⟨.hbm, 167, rfl⟩
abbrev main_c_18 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_19 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_cst_20 : Ref sig .tc := ⟨.hbm, 178, rfl⟩
abbrev main_v134 : Ref sig .tc := ⟨.hbm, 179, rfl⟩
abbrev main_cst_21 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_22 : Ref sig .tc := ⟨.hbm, 184, rfl⟩
abbrev main_call6_v0 : Ref sig .tc := ⟨.hbm, 185, rfl⟩
abbrev main_call6_v1 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_call7_cst : Ref sig .tc := ⟨.hbm, 195, rfl⟩
abbrev main_call7_v0 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_cst_23 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_cst_24 : Ref sig .tc := ⟨.hbm, 205, rfl⟩
abbrev main_v153 : Ref sig .tc := ⟨.hbm, 206, rfl⟩
abbrev main_cst_25 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_cst_26 : Ref sig .tc := ⟨.hbm, 211, rfl⟩
abbrev main_call8_v0 : Ref sig .tc := ⟨.hbm, 212, rfl⟩
abbrev main_call8_v1 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩

abbrev nD : Nat := 1
abbrev τ : Topo := Topo.v7x

variable {F : FTy → Type} [FloatOps F]
-- ==== Proof.KernelIdealConv.lean ====
/- The first call of the program: what the convolution body leaves in its output block and in its scratch at each
   grid point, for any contents of the arrays it finds. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Full

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` at grid point `t`, cut out of the array the first call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input 0's buffer holds its block before the body at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input 1's buffer holds its block before the body at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first point's test in the conv body: the grid coordinate is zero. -/
abbrev cond0_0 (i : grid0.Coords) : Prop := (Scalar.cmpi .ne (Scalar.extui (Scalar.cmpi .eq (BitVec.ofNat 32 (i 0).val) 0#32)) 0#32) = 1#1
/-- The test holds at the first point only. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

abbrev VO0_2 : View sig .tc .vmem S2x64x1 .f32 := (Memref.whole cc0_stg2_0 : Memref sig .tc .vmem S2x64x1 .f32).view
abbrev ms0_0 (t : Fin cfg0.N) : Memref sig .tc .vmem S2x3x224x224 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x217 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x64x1 .f32 := win0_2.stage (cfg0.slots t 2)
abbrev hs0_2 (t : Fin cfg0.N) : (ms0_2 t).IsWhole := hstage0_2 ((cfg0.slots t 2).cast nbuf0_2)
abbrev scM0_0 : Memref sig .tc .vmem S2x3x248x384 .bf16 := Memref.whole cc0_scratch0
abbrev VS0_0 : View sig .tc .vmem S2x3x248x384 .bf16 := scM0_0.view

/-- The staging buffers of the second call, at anything: they ride along while the first call runs. -/
abbrev Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f))

/-- What the launch hands the first call beside its windows: the scratch, the other call's staging buffers and the
    generator register, each at anything. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA; rw [scopedRest0_eq]; simp only [scM0_0, owns_whole]; try rfl

set_option maxHeartbeats 1000000 in
/-- The conv body at the first point: from the two input blocks it leaves the listed pieces in the output block and in the scratch. -/
noncomputable def kernelRun0_A (c : Dev nD) (i : grid0.Coords) (arg1 : Memref sig .tc .vmem S2x3x224x224 .f32) (harg1 : arg1.IsWhole) (arg2 : Memref sig .tc .vmem S512x217 .bf16) (harg2 : arg2.IsWhole) (arg3 : Memref sig .tc .vmem S2x64x1 .f32) (harg3 : arg3.IsWhole) (arg4 : Memref sig .tc .vmem S2x3x248x384 .bf16) (harg4 : arg4.IsWhole) (hc0 : cond0_0 i)
    (x0 : Vec F S2x3x224x224 .f32) (x1 : Vec F S512x217 .bf16) :
    Σ' (L2 : List (View.Piece (Elt F) S2x64x1 .f32)), { LS0 : List (View.Piece (Elt F) S2x3x248x384 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__conv_pool_kernel i arg1 harg1 arg2 harg2 arg3 harg3 arg4 harg4) K } := by
  refine ⟨?_, ?_, fun E K => ?run⟩
  case run =>
    simp only [cc0__conv_pool_kernel_eq_skeleton]; unfold cc0__conv_pool_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

set_option maxHeartbeats 1000000 in
/-- The conv body at a later point: as at the first, over the scratch as the point before left it. -/
noncomputable def kernelRun0_B (c : Dev nD) (i : grid0.Coords) (arg1 : Memref sig .tc .vmem S2x3x224x224 .f32) (harg1 : arg1.IsWhole) (arg2 : Memref sig .tc .vmem S512x217 .bf16) (harg2 : arg2.IsWhole) (arg3 : Memref sig .tc .vmem S2x64x1 .f32) (harg3 : arg3.IsWhole) (arg4 : Memref sig .tc .vmem S2x3x248x384 .bf16) (harg4 : arg4.IsWhole) (hc0 : ¬cond0_0 i)
    (x0 : Vec F S2x3x224x224 .f32) (x1 : Vec F S512x217 .bf16) (xs0 : Vec F S2x3x248x384 .bf16) :
    Σ' (L2 : List (View.Piece (Elt F) S2x64x1 .f32)), { LS0 : List (View.Piece (Elt F) S2x3x248x384 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (arg4.view.loc (c : Thread nD τ) ↦[arg4.view.set]{fullShare} arg4.view.writes (Elt F) (harg4.unread xs0) LS0)) -∗ K ⟨⟩))
          ⊢ wp frame (wpE (defs₀ (F := F)) Variants.none c none) E (cc0__conv_pool_kernel i arg1 harg1 arg2 harg2 arg3 harg3 arg4 harg4) K } := by
  refine ⟨?_, ?_, fun E K => ?run⟩
  case run =>
    simp only [cc0__conv_pool_kernel_eq_skeleton]; unfold cc0__conv_pool_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexact HS0

/-- At the first point the stores cover the output block. -/
theorem cover0_A_2 (c : Dev nD) (i : grid0.Coords) (arg1 : Memref sig .tc .vmem S2x3x224x224 .f32) (harg1 : arg1.IsWhole) (arg2 : Memref sig .tc .vmem S512x217 .bf16) (harg2 : arg2.IsWhole) (arg3 : Memref sig .tc .vmem S2x64x1 .f32) (harg3 : arg3.IsWhole) (arg4 : Memref sig .tc .vmem S2x3x248x384 .bf16) (harg4 : arg4.IsWhole) (hc0 : cond0_0 i)
    (x0 : Vec F S2x3x224x224 .f32) (x1 : Vec F S512x217 .bf16) (y : S2x64x1.Idx) :
    ∃ pc ∈ (kernelRun0_A c i arg1 harg1 arg2 harg2 arg3 harg3 arg4 harg4 hc0 x0 x1).1, y ∈ pc.1.set :=
  View.cover_of_tiledL (kernelRun0_A c i arg1 harg1 arg2 harg2 arg3 harg3 arg4 harg4 hc0 x0 x1).1 S1x64x1.size (by sl_kernel_rfl) y

/-- The output block after the first point. -/
def out0_A_2 (c : Dev nD) (i : grid0.Coords) (arg1 : Memref sig .tc .vmem S2x3x224x224 .f32) (harg1 : arg1.IsWhole) (arg2 : Memref sig .tc .vmem S512x217 .bf16) (harg2 : arg2.IsWhole) (arg3 : Memref sig .tc .vmem S2x64x1 .f32) (harg3 : arg3.IsWhole) (arg4 : Memref sig .tc .vmem S2x3x248x384 .bf16) (harg4 : arg4.IsWhole) (hc0 : cond0_0 i)
    (x0 : Vec F S2x3x224x224 .f32) (x1 : Vec F S512x217 .bf16) : Vec F S2x64x1 .f32 :=
  VO0_2.read (Elt F) (VO0_2.writes (Elt F) VO0_2.junk (kernelRun0_A c i arg1 harg1 arg2 harg2 arg3 harg3 arg4 harg4 hc0 x0 x1).1)

/-- At the first point the stores cover the scratch. -/
theorem scover0_A_0 (c : Dev nD) (i : grid0.Coords) (arg1 : Memref sig .tc .vmem S2x3x224x224 .f32) (harg1 : arg1.IsWhole) (arg2 : Memref sig .tc .vmem S512x217 .bf16) (harg2 : arg2.IsWhole) (arg3 : Memref sig .tc .vmem S2x64x1 .f32) (harg3 : arg3.IsWhole) (arg4 : Memref sig .tc .vmem S2x3x248x384 .bf16) (harg4 : arg4.IsWhole) (hc0 : cond0_0 i)
    (x0 : Vec F S2x3x224x224 .f32) (x1 : Vec F S512x217 .bf16) (y : S2x3x248x384.Idx) :
    ∃ pc ∈ (kernelRun0_A c i arg1 harg1 arg2 harg2 arg3 harg3 arg4 harg4 hc0 x0 x1).2.1, y ∈ pc.1.set :=
  View.cover_of_wholeMem (kernelRun0_A c i arg1 harg1 arg2 harg2 arg3 harg3 arg4 harg4 hc0 x0 x1).2.1 (by sl_whole_mem) y

/-- The scratch after the first point. -/
def sout0_A_0 (c : Dev nD) (i : grid0.Coords) (arg1 : Memref sig .tc .vmem S2x3x224x224 .f32) (harg1 : arg1.IsWhole) (arg2 : Memref sig .tc .vmem S512x217 .bf16) (harg2 : arg2.IsWhole) (arg3 : Memref sig .tc .vmem S2x64x1 .f32) (harg3 : arg3.IsWhole) (arg4 : Memref sig .tc .vmem S2x3x248x384 .bf16) (harg4 : arg4.IsWhole) (hc0 : cond0_0 i)
    (x0 : Vec F S2x3x224x224 .f32) (x1 : Vec F S512x217 .bf16) : Vec F S2x3x248x384 .bf16 :=
  VS0_0.read (Elt F) (VS0_0.writes (Elt F) VS0_0.junk (kernelRun0_A c i arg1 harg1 arg2 harg2 arg3 harg3 arg4 harg4 hc0 x0 x1).2.1)

/-- At a later point the stores cover the output block. -/
theorem cover0_B_2 (c : Dev nD) (i : grid0.Coords) (arg1 : Memref sig .tc .vmem S2x3x224x224 .f32) (harg1 : arg1.IsWhole) (arg2 : Memref sig .tc .vmem S512x217 .bf16) (harg2 : arg2.IsWhole) (arg3 : Memref sig .tc .vmem S2x64x1 .f32) (harg3 : arg3.IsWhole) (arg4 : Memref sig .tc .vmem S2x3x248x384 .bf16) (harg4 : arg4.IsWhole) (hc0 : ¬cond0_0 i)
    (x0 : Vec F S2x3x224x224 .f32) (x1 : Vec F S512x217 .bf16) (xs0 : Vec F S2x3x248x384 .bf16) (y : S2x64x1.Idx) :
    ∃ pc ∈ (kernelRun0_B c i arg1 harg1 arg2 harg2 arg3 harg3 arg4 harg4 hc0 x0 x1 xs0).1, y ∈ pc.1.set :=
  View.cover_of_tiledL (kernelRun0_B c i arg1 harg1 arg2 harg2 arg3 harg3 arg4 harg4 hc0 x0 x1 xs0).1 S1x64x1.size (by sl_kernel_rfl) y

/-- The output block after a later point. -/
def out0_B_2 (c : Dev nD) (i : grid0.Coords) (arg1 : Memref sig .tc .vmem S2x3x224x224 .f32) (harg1 : arg1.IsWhole) (arg2 : Memref sig .tc .vmem S512x217 .bf16) (harg2 : arg2.IsWhole) (arg3 : Memref sig .tc .vmem S2x64x1 .f32) (harg3 : arg3.IsWhole) (arg4 : Memref sig .tc .vmem S2x3x248x384 .bf16) (harg4 : arg4.IsWhole) (hc0 : ¬cond0_0 i)
    (x0 : Vec F S2x3x224x224 .f32) (x1 : Vec F S512x217 .bf16) (xs0 : Vec F S2x3x248x384 .bf16) : Vec F S2x64x1 .f32 :=
  VO0_2.read (Elt F) (VO0_2.writes (Elt F) VO0_2.junk (kernelRun0_B c i arg1 harg1 arg2 harg2 arg3 harg3 arg4 harg4 hc0 x0 x1 xs0).1)

/-- The scratch after a later point. -/
def sout0_B_0 (c : Dev nD) (i : grid0.Coords) (arg1 : Memref sig .tc .vmem S2x3x224x224 .f32) (harg1 : arg1.IsWhole) (arg2 : Memref sig .tc .vmem S512x217 .bf16) (harg2 : arg2.IsWhole) (arg3 : Memref sig .tc .vmem S2x64x1 .f32) (harg3 : arg3.IsWhole) (arg4 : Memref sig .tc .vmem S2x3x248x384 .bf16) (harg4 : arg4.IsWhole) (hc0 : ¬cond0_0 i)
    (x0 : Vec F S2x3x224x224 .f32) (x1 : Vec F S512x217 .bf16) (xs0 : Vec F S2x3x248x384 .bf16) : Vec F S2x3x248x384 .bf16 :=
  arg4.view.read (Elt F) (arg4.view.writes (Elt F) (harg4.unread xs0) (kernelRun0_B c i arg1 harg1 arg2 harg2 arg3 harg3 arg4 harg4 hc0 x0 x1 xs0).2.1)

/-- The output block and the scratch after each grid point. -/
def outsAt0 (c : Dev nD) : (n : ℕ) → n < cfg0.N → Vec F S2x64x1 .f32 × Vec F S2x3x248x384 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk0 V c 0 ⟨0, hn⟩) (iblk0 V c 1 ⟨0, hn⟩))
  | n + 1, hn =>
    if h0 : (n + 1) % 32 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2)

/-- What they hold after the first point. -/
theorem outsAt0_A (c : Dev nD) (t : Fin cfg0.N) (h0 : t.val % 32 = 0) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t)) := by
  obtain ⟨n, hn⟩ := t
  cases n with
  | zero => exact rfl
  | succ n => exact (dif_pos h0).trans rfl

/-- What they hold after a later point, over the point before. -/
theorem outsAt0_B (c : Dev nD) (t : Fin cfg0.N) (h0 : ¬t.val % 32 = 0) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What the first call holds beside its windows before each point: after the first point the scratch is at the contents left by the point before. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

/-- Before the first step nothing is known of the scratch. -/
theorem PhiS_zero (c : Dev nD) (n : ℕ) (h : n ≤ cfg0.N) (hz : n = 0) : PhiS V c n h = Pipeline.ΦA spec0 c := by
  subst hz; rfl

/-- After a step the scratch holds what the step left. -/
theorem PhiS_succ (c : Dev nD) (n : ℕ) (hn : n < cfg0.N) :
    PhiS V c (n + 1) hn = iprop(iprop(owns (c : Thread nD τ) scM0_0 fullShare ((outsAt0 V c n hn).2) ∗ Rest0 c) ∗ (∃ r, prngReg c r)) := rfl

/-- From the first step on the scratch holds what the step before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ Rest0 c) ∗ (∃ r, prngReg c r)) := by
  cases n with
  | zero => exact absurd rfl hz
  | succ n => rfl

/-- The first call: its arrays at entry, its blocks after each point, its invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

/-- The arrays that the call finds. -/
theorem A_eq0 (c : Dev nD) (w : Fin cfg0.W) : (dat0 V c).A w = V c (Pipeline.arrRef spec0 w) := by
  dsimp only [dat0]

/-- What is known of the scratch before a step. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- Window 0's buffer after the body. -/
theorem after0_0 (c : Dev nD) (t : Fin cfg0.N) : (dat0 V c).after 0 t = iblk0 V c 0 t := by dsimp only [dat0]
/-- Window 1's buffer after the body. -/
theorem after0_1 (c : Dev nD) (t : Fin cfg0.N) : (dat0 V c).after 1 t = iblk0 V c 1 t := by dsimp only [dat0]
/-- Window 2's buffer after the body. -/
theorem after0_2 (c : Dev nD) (t : Fin cfg0.N) : (dat0 V c).after 2 t = (outsAt0 V c t.val t.isLt).1 := by dsimp only [dat0]

/-- Input 0's buffer holds its block before the body at every point. -/
theorem before0_0 (c : Dev nD) (t : Fin cfg0.N) (d) : (dat0 V c).before 0 t d = iblk0 V c 0 t :=
  before0_0_of V (dat0 V c) (A_eq0 V c 0) (after0_0 V c) t d
/-- Input 1's buffer holds its block before the body at every point. -/
theorem before0_1 (c : Dev nD) (t : Fin cfg0.N) (d) : (dat0 V c).before 1 t d = iblk0 V c 1 t :=
  before0_1_of V (dat0 V c) (A_eq0 V c 1) (after0_1 V c) t d

/-- What the body of the convolution finds at a step. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- What the body of the convolution leaves at a step. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 3200000 in
/-- The conv body meets its specification at every grid point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    after0_0, after0_1, after0_2]
  rw [show (dat0 V c).Φ t.succ = PhiS V c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc V c t, PhiS_zero V c _ _ hz, PhiA0_eq]
      rw [outsAt0_A V c t h0]
      unfold out0_A_2 sout0_A_0; (try dsimp only)
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc V c t, PhiS_pos V c _ _ hz]
      rw [outsAt0_B V c t h0]
      unfold out0_B_2 sout0_B_0; (try dsimp only)
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, HS0⟩
      isplitl [HS0 HR Hg]
      · isplitl [HS0 HR]
        · isplitl [HS0]
          · unfold owns; iexists _; isplitr
            swap; · iexact HS0
            ipureintro; rfl
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _ _)

/-- The function that a step of the convolution calls. -/
theorem defs₀_row0 (t : Fin cfg0.N) :
    defs₀ (F := F) .tc cfg0.body (cfg0.bodyArgs t (cfg0.slots t)) = bodyAt0 t := by
  unfold defs₀; rw [Defs.onTc_tc]

/-- Every step of the convolution runs from what it finds to what it leaves. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the call starts from is what the first step asks for. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any step the scratch may be given back. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- After the last step the scratch is given back. -/
theorem hout0 (c : Dev nD) : (dat0 V c).Φ (Fin.last cfg0.N) ⊢ Pipeline.ΦA spec0 c :=
  Phi_out V c _ (by rw [Fin.val_last]; have : cfg0.N = 32 := N_0; omega)

end Cert.KernelIdeal.Full

end
-- ==== Proof.KernelIdealHead.lean ====
/- The second call of the program: what the head body leaves in its output block, for any contents of the arrays
   it finds. -/
module

public import proofs.«01_k».proof.Proof.KernelIdealConv

@[expose] public section

set_option maxRecDepth 16384

noncomputable section

namespace Cert.KernelIdeal.Full

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` of the second call, cut out of the array that call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input 0's buffer holds its block before the body at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input 1's buffer holds its block before the body at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input 2's buffer holds its block before the body at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input 3's buffer holds its block before the body at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input 4's buffer holds its block before the body at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input 5's buffer holds its block before the body at every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input 6's buffer holds its block before the body at every point. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input 7's buffer holds its block before the body at every point. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input 8's buffer holds its block before the body at every point. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input 9's buffer holds its block before the body at every point. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input 10's buffer holds its block before the body at every point. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input 11's buffer holds its block before the body at every point. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1024x4 := Rect.unit (s := S1024x4) ![0, 0] S1024x4.size inb_S1024x4_S1024x4_0_0
abbrev r1_1 : Rect S1024x1024 := Rect.unit (s := S1024x1024) ![0, 0] S1024x1024.size inb_S1024x1024_S1024x1024_0_0
abbrev r1_2 : Rect S4x128 := Rect.unit (s := S4x128) ![0, 0] S4x128.size inb_S4x128_S4x128_0_0
abbrev r1_3 : Rect S1x128 := Rect.unit (s := S1x128) ![0, 0] S1x128.size inb_S1x128_S1x128_0_0
abbrev r1_4 : Rect S256x128 := Rect.unit (s := S256x128) ![0, 0] S256x128.size inb_S256x128_S256x128_0_0
abbrev r1_5 : Rect S64x1024 := Rect.unit (s := S64x1024) ![0, 0] S64x1024.size inb_S64x1024_S64x1024_0_0
abbrev r1_6 : Rect S128x50 := Rect.unit (s := S128x50) ![0, 0] S128x50.size inb_S128x50_S128x50_0_0
abbrev r1_7 : Rect S1x50 := Rect.unit (s := S1x50) ![0, 0] S1x50.size inb_S1x50_S1x50_0_0
abbrev r1_8 : Rect S64x50 := Rect.unit (s := S64x50) ![0, 0] S64x50.size inb_S64x50_S64x50_0_0

/-- What the head body leaves in its output block, from the input blocks. -/
def out1_12 (x0 : Vec F S1024x4 .f32) (x1 : Vec F S1024x1024 .f32) (x2 : Vec F S1024x1024 .f32) (x3 : Vec F S64x1024 .f32) (x4 : Vec F S4x128 .f32) (x5 : Vec F S1x128 .f32) (x6 : Vec F S4x128 .f32) (x7 : Vec F S1x128 .f32) (x8 : Vec F S256x128 .f32) (x9 : Vec F S1x128 .f32) (x10 : Vec F S128x50 .f32) (x11 : Vec F S1x50 .f32) : Vec F S64x50 .f32 :=
  View.canon [⟨r1_8, k1_pay1 (k1_pay2 (View.ld x0 r1_0) (View.ld x1 r1_1) (View.ld x4 r1_2) (View.ld x5 r1_3) (View.ld x2 r1_1) (View.ld x6 r1_2) (View.ld x7 r1_3) (View.ld x1 r1_1) (View.ld x8 r1_4)) (k1_pay3 (View.ld x9 r1_3)) (View.ld x3 r1_5) (View.ld x10 r1_6) (View.ld x11 r1_7)⟩]

/-- The head's one store fills its output block. -/
theorem cover1_12 (p0 : Vec F S64x50 .f32) (y : S64x50.Idx) :
    ∃ pc ∈ ([⟨r1_8, p0⟩] : List (View.Piece (Elt F) S64x50 .f32)), y ∈ pc.1.set :=
  View.cover_of_tiled [⟨r1_8, p0⟩] S64x50.size (by rfl) y

set_option maxHeartbeats 1000000 in
/-- The head body on whole buffers: inputs as they were, the output at `out1_12` of them. -/
theorem sound_kernel1 (c : Dev nD) (E : Set ℕ) (arg0 : Memref sig .tc .vmem S1024x4 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S64x1024 .f32) (harg3 : arg3.IsWhole) (arg4 : Memref sig .tc .vmem S4x128 .f32) (harg4 : arg4.IsWhole) (arg5 : Memref sig .tc .vmem S1x128 .f32) (harg5 : arg5.IsWhole) (arg6 : Memref sig .tc .vmem S4x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S128x50 .f32) (harg10 : arg10.IsWhole) (arg11 : Memref sig .tc .vmem S1x50 .f32) (harg11 : arg11.IsWhole) (arg12 : Memref sig .tc .vmem S64x50 .f32) (harg12 : arg12.IsWhole)
    (x0 : Vec F S1024x4 .f32) (x1 : Vec F S1024x1024 .f32) (x2 : Vec F S1024x1024 .f32) (x3 : Vec F S64x1024 .f32) (x4 : Vec F S4x128 .f32) (x5 : Vec F S1x128 .f32) (x6 : Vec F S4x128 .f32) (x7 : Vec F S1x128 .f32) (x8 : Vec F S256x128 .f32) (x9 : Vec F S1x128 .f32) (x10 : Vec F S128x50 .f32) (x11 : Vec F S1x50 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out1_12 x0 x1 x2 x3 x4 x5 x6 x7 x8 x9 x10 x11)) -∗ K ⟨⟩))
      ⊢ wp frame (wpE (defs₀ (F := F)) Variants.none c none) E (cc1__gcn_head_kernel arg0 harg0 arg1 harg1 arg2 harg2 arg3 harg3 arg4 harg4 arg5 harg5 arg6 harg6 arg7 harg7 arg8 harg8 arg9 harg9 arg10 harg10 arg11 harg11 arg12 harg12) K := by
  simp only [cc1__gcn_head_kernel_eq_skeleton]; unfold cc1__gcn_head_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover1_12 _)

/-- The second call: its arrays at entry, its blocks after its only point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q _ := fullShare
  owed _ := 0

/-- The arrays that the call finds. -/
theorem A_eq1 (c : Dev nD) (w : Fin cfg1.W) : (dat1 V c).A w = V c (Pipeline.arrRef spec1 w) := by
  dsimp only [dat1]

/-- Window 0's buffer after the body. -/
theorem after1_0 (c : Dev nD) (t : Fin cfg1.N) : (dat1 V c).after 0 t = iblk1 V c 0 t := by dsimp only [dat1]
/-- Window 1's buffer after the body. -/
theorem after1_1 (c : Dev nD) (t : Fin cfg1.N) : (dat1 V c).after 1 t = iblk1 V c 1 t := by dsimp only [dat1]
/-- Window 2's buffer after the body. -/
theorem after1_2 (c : Dev nD) (t : Fin cfg1.N) : (dat1 V c).after 2 t = iblk1 V c 2 t := by dsimp only [dat1]
/-- Window 3's buffer after the body. -/
theorem after1_3 (c : Dev nD) (t : Fin cfg1.N) : (dat1 V c).after 3 t = iblk1 V c 3 t := by dsimp only [dat1]
/-- Window 4's buffer after the body. -/
theorem after1_4 (c : Dev nD) (t : Fin cfg1.N) : (dat1 V c).after 4 t = iblk1 V c 4 t := by dsimp only [dat1]
/-- Window 5's buffer after the body. -/
theorem after1_5 (c : Dev nD) (t : Fin cfg1.N) : (dat1 V c).after 5 t = iblk1 V c 5 t := by dsimp only [dat1]
/-- Window 6's buffer after the body. -/
theorem after1_6 (c : Dev nD) (t : Fin cfg1.N) : (dat1 V c).after 6 t = iblk1 V c 6 t := by dsimp only [dat1]
/-- Window 7's buffer after the body. -/
theorem after1_7 (c : Dev nD) (t : Fin cfg1.N) : (dat1 V c).after 7 t = iblk1 V c 7 t := by dsimp only [dat1]
/-- Window 8's buffer after the body. -/
theorem after1_8 (c : Dev nD) (t : Fin cfg1.N) : (dat1 V c).after 8 t = iblk1 V c 8 t := by dsimp only [dat1]
/-- Window 9's buffer after the body. -/
theorem after1_9 (c : Dev nD) (t : Fin cfg1.N) : (dat1 V c).after 9 t = iblk1 V c 9 t := by dsimp only [dat1]
/-- Window 10's buffer after the body. -/
theorem after1_10 (c : Dev nD) (t : Fin cfg1.N) : (dat1 V c).after 10 t = iblk1 V c 10 t := by dsimp only [dat1]
/-- Window 11's buffer after the body. -/
theorem after1_11 (c : Dev nD) (t : Fin cfg1.N) : (dat1 V c).after 11 t = iblk1 V c 11 t := by dsimp only [dat1]
/-- Window 12's buffer after the body. -/
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]

/-- Input 0's buffer holds its block before the body at every point. -/
theorem before1_0 (c : Dev nD) (t : Fin cfg1.N) (d) : (dat1 V c).before 0 t d = iblk1 V c 0 t :=
  before1_0_of V (dat1 V c) (A_eq1 V c 0) (after1_0 V c) t d
/-- Input 1's buffer holds its block before the body at every point. -/
theorem before1_1 (c : Dev nD) (t : Fin cfg1.N) (d) : (dat1 V c).before 1 t d = iblk1 V c 1 t :=
  before1_1_of V (dat1 V c) (A_eq1 V c 1) (after1_1 V c) t d
/-- Input 2's buffer holds its block before the body at every point. -/
theorem before1_2 (c : Dev nD) (t : Fin cfg1.N) (d) : (dat1 V c).before 2 t d = iblk1 V c 2 t :=
  before1_2_of V (dat1 V c) (A_eq1 V c 2) (after1_2 V c) t d
/-- Input 3's buffer holds its block before the body at every point. -/
theorem before1_3 (c : Dev nD) (t : Fin cfg1.N) (d) : (dat1 V c).before 3 t d = iblk1 V c 3 t :=
  before1_3_of V (dat1 V c) (A_eq1 V c 3) (after1_3 V c) t d
/-- Input 4's buffer holds its block before the body at every point. -/
theorem before1_4 (c : Dev nD) (t : Fin cfg1.N) (d) : (dat1 V c).before 4 t d = iblk1 V c 4 t :=
  before1_4_of V (dat1 V c) (A_eq1 V c 4) (after1_4 V c) t d
/-- Input 5's buffer holds its block before the body at every point. -/
theorem before1_5 (c : Dev nD) (t : Fin cfg1.N) (d) : (dat1 V c).before 5 t d = iblk1 V c 5 t :=
  before1_5_of V (dat1 V c) (A_eq1 V c 5) (after1_5 V c) t d
/-- Input 6's buffer holds its block before the body at every point. -/
theorem before1_6 (c : Dev nD) (t : Fin cfg1.N) (d) : (dat1 V c).before 6 t d = iblk1 V c 6 t :=
  before1_6_of V (dat1 V c) (A_eq1 V c 6) (after1_6 V c) t d
/-- Input 7's buffer holds its block before the body at every point. -/
theorem before1_7 (c : Dev nD) (t : Fin cfg1.N) (d) : (dat1 V c).before 7 t d = iblk1 V c 7 t :=
  before1_7_of V (dat1 V c) (A_eq1 V c 7) (after1_7 V c) t d
/-- Input 8's buffer holds its block before the body at every point. -/
theorem before1_8 (c : Dev nD) (t : Fin cfg1.N) (d) : (dat1 V c).before 8 t d = iblk1 V c 8 t :=
  before1_8_of V (dat1 V c) (A_eq1 V c 8) (after1_8 V c) t d
/-- Input 9's buffer holds its block before the body at every point. -/
theorem before1_9 (c : Dev nD) (t : Fin cfg1.N) (d) : (dat1 V c).before 9 t d = iblk1 V c 9 t :=
  before1_9_of V (dat1 V c) (A_eq1 V c 9) (after1_9 V c) t d
/-- Input 10's buffer holds its block before the body at every point. -/
theorem before1_10 (c : Dev nD) (t : Fin cfg1.N) (d) : (dat1 V c).before 10 t d = iblk1 V c 10 t :=
  before1_10_of V (dat1 V c) (A_eq1 V c 10) (after1_10 V c) t d
/-- Input 11's buffer holds its block before the body at every point. -/
theorem before1_11 (c : Dev nD) (t : Fin cfg1.N) (d) : (dat1 V c).before 11 t d = iblk1 V c 11 t :=
  before1_11_of V (dat1 V c) (A_eq1 V c 11) (after1_11 V c) t d

/-- What the body of the head finds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- What the body of the head leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The head body meets its specification. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The function that the head's step calls. -/
theorem defs₀_row1 (t : Fin cfg1.N) :
    defs₀ (F := F) .tc cfg1.body (cfg1.bodyArgs t (cfg1.slots t)) = bodyAt1 t := by
  unfold defs₀; rw [Defs.onTc_tc]

/-- The head's step runs from what it finds to what it leaves. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Full

end
-- ==== Proof.KernelIdealRun.lean ====
/- The whole program as a run: host stretches and the two calls in order, the contents of every buffer at each
   boundary, and the run that ends with the arguments unchanged and the result named. -/
module

public import proofs.«01_k».proof.Proof.KernelIdealHead

@[expose] public section

set_option maxRecDepth 16384

noncomputable section

namespace Cert.KernelIdeal.Full

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10]

/-- The stretch `hostOps0` allocates nothing. -/
theorem hostOps0_fresh : (hostOps0 : List (HloOp τ sig (Elt F))).Forall fun op => op.fresh = ∅ := by
  simp only [List.Forall]; repeat' constructor
/-- The buffers the stretch `hostOps0` writes. -/
abbrev hostOps0_W : List (Ref sig .tc) := [main_cst, main_v0, main_v1, main_v2, main_v3, main_v4, main_v5, main_v6, main_v7, main_v8]
/-- The stretch `hostOps0` writes only those buffers. -/
theorem hostOps0_writes : (hostOps0 : List (HloOp τ sig (Elt F))).Forall fun op => op.writes ⊆ (hostOps0_W.map (Proc.devRef (τ := τ) .tc)).toFinset :=
  StableHlo.forall_writes_sub_of_map rfl
/-- The stretch `hostOps0` writes no argument. -/
theorem hostOps0_args : ∀ a ∈ argRefs, a ∉ hostOps0_W := ListAll.forall_mem_of_all_decide (by decide +kernel)

/-- The stretch `hostOps1` allocates nothing. -/
theorem hostOps1_fresh : (hostOps1 : List (HloOp τ sig (Elt F))).Forall fun op => op.fresh = ∅ := by
  simp only [List.Forall]; repeat' constructor
/-- The buffers the stretch `hostOps1` writes. -/
abbrev hostOps1_W : List (Ref sig .tc) := [main_v10, main_v11, main_v12, main_v13, main_v14, main_v15, main_v16, main_v17, main_v18, main_c, main_v19, main_v20, main_c_0, main_v21, main_v22, main_v23, main_v24, main_cst_1, main_v25, main_v26, main_cst_2]
/-- The stretch `hostOps1` writes only those buffers. -/
theorem hostOps1_writes : (hostOps1 : List (HloOp τ sig (Elt F))).Forall fun op => op.writes ⊆ (hostOps1_W.map (Proc.devRef (τ := τ) .tc)).toFinset :=
  StableHlo.forall_writes_sub_of_map rfl
/-- The stretch `hostOps1` writes no argument. -/
theorem hostOps1_args : ∀ a ∈ argRefs, a ∉ hostOps1_W := ListAll.forall_mem_of_all_decide (by decide +kernel)

/-- The stretch `hostOps1_1` allocates nothing. -/
theorem hostOps1_1_fresh : (hostOps1_1 : List (HloOp τ sig (Elt F))).Forall fun op => op.fresh = ∅ := by
  simp only [List.Forall]; repeat' constructor
/-- The buffers the stretch `hostOps1_1` writes. -/
abbrev hostOps1_1_W : List (Ref sig .tc) := [main_call0_v0, main_call0_v1, main_call0_v2, main_v27]
/-- The stretch `hostOps1_1` writes only those buffers. -/
theorem hostOps1_1_writes : (hostOps1_1 : List (HloOp τ sig (Elt F))).Forall fun op => op.writes ⊆ (hostOps1_1_W.map (Proc.devRef (τ := τ) .tc)).toFinset :=
  StableHlo.forall_writes_sub_of_map rfl
/-- The stretch `hostOps1_1` writes no argument. -/
theorem hostOps1_1_args : ∀ a ∈ argRefs, a ∉ hostOps1_1_W := ListAll.forall_mem_of_all_decide (by decide +kernel)

/-- The stretch `hostOps1_2` allocates nothing. -/
theorem hostOps1_2_fresh : (hostOps1_2 : List (HloOp τ sig (Elt F))).Forall fun op => op.fresh = ∅ := by
  simp only [List.Forall]; repeat' constructor
/-- The buffers the stretch `hostOps1_2` writes. -/
abbrev hostOps1_2_W : List (Ref sig .tc) := [main_v28, main_v29, main_v30, main_v31, main_v32, main_c_3, main_v33, main_v34, main_v35, main_v36, main_cst_4, main_v37, main_v38, main_cst_5]
/-- The stretch `hostOps1_2` writes only those buffers. -/
theorem hostOps1_2_writes : (hostOps1_2 : List (HloOp τ sig (Elt F))).Forall fun op => op.writes ⊆ (hostOps1_2_W.map (Proc.devRef (τ := τ) .tc)).toFinset :=
  StableHlo.forall_writes_sub_of_map rfl
/-- The stretch `hostOps1_2` writes no argument. -/
theorem hostOps1_2_args : ∀ a ∈ argRefs, a ∉ hostOps1_2_W := ListAll.forall_mem_of_all_decide (by decide +kernel)

/-- The stretch `hostOps1_3` allocates nothing. -/
theorem hostOps1_3_fresh : (hostOps1_3 : List (HloOp τ sig (Elt F))).Forall fun op => op.fresh = ∅ := by
  simp only [List.Forall]; repeat' constructor
/-- The buffers the stretch `hostOps1_3` writes. -/
abbrev hostOps1_3_W : List (Ref sig .tc) := [main_call1_v0, main_call1_v1, main_call1_v2, main_v39]
/-- The stretch `hostOps1_3` writes only those buffers. -/
theorem hostOps1_3_writes : (hostOps1_3 : List (HloOp τ sig (Elt F))).Forall fun op => op.writes ⊆ (hostOps1_3_W.map (Proc.devRef (τ := τ) .tc)).toFinset :=
  StableHlo.forall_writes_sub_of_map rfl
/-- The stretch `hostOps1_3` writes no argument. -/
theorem hostOps1_3_args : ∀ a ∈ argRefs, a ∉ hostOps1_3_W := ListAll.forall_mem_of_all_decide (by decide +kernel)

/-- The stretch `hostOps1_4` allocates nothing. -/
theorem hostOps1_4_fresh : (hostOps1_4 : List (HloOp τ sig (Elt F))).Forall fun op => op.fresh = ∅ := by
  simp only [List.Forall]; repeat' constructor
/-- The buffers the stretch `hostOps1_4` writes. -/
abbrev hostOps1_4_W : List (Ref sig .tc) := [main_v40, main_v41, main_c_6, main_v42, main_v43, main_v44, main_v45]
/-- The stretch `hostOps1_4` writes only those buffers. -/
theorem hostOps1_4_writes : (hostOps1_4 : List (HloOp τ sig (Elt F))).Forall fun op => op.writes ⊆ (hostOps1_4_W.map (Proc.devRef (τ := τ) .tc)).toFinset :=
  StableHlo.forall_writes_sub_of_map rfl
/-- The stretch `hostOps1_4` writes no argument. -/
theorem hostOps1_4_args : ∀ a ∈ argRefs, a ∉ hostOps1_4_W := ListAll.forall_mem_of_all_decide (by decide +kernel)

/-- The stretch `hostOps1_5` allocates nothing. -/
theorem hostOps1_5_fresh : (hostOps1_5 : List (HloOp τ sig (Elt F))).Forall fun op => op.fresh = ∅ := by
  simp only [List.Forall]; repeat' constructor
/-- The buffers the stretch `hostOps1_5` writes. -/
abbrev hostOps1_5_W : List (Ref sig .tc) := [main_call2_v0, main_call2_v1, main_call2_v2, main_call2_v3, main_call2_v4, main_v46]
/-- The stretch `hostOps1_5` writes only those buffers. -/
theorem hostOps1_5_writes : (hostOps1_5 : List (HloOp τ sig (Elt F))).Forall fun op => op.writes ⊆ (hostOps1_5_W.map (Proc.devRef (τ := τ) .tc)).toFinset :=
  StableHlo.forall_writes_sub_of_map rfl
/-- The stretch `hostOps1_5` writes no argument. -/
theorem hostOps1_5_args : ∀ a ∈ argRefs, a ∉ hostOps1_5_W := ListAll.forall_mem_of_all_decide (by decide +kernel)

/-- The stretch `hostOps1_6` allocates nothing. -/
theorem hostOps1_6_fresh : (hostOps1_6 : List (HloOp τ sig (Elt F))).Forall fun op => op.fresh = ∅ := by
  simp only [List.Forall]; repeat' constructor
/-- The buffers the stretch `hostOps1_6` writes. -/
abbrev hostOps1_6_W : List (Ref sig .tc) := [main_call3_v0, main_call3_v1, main_call3_v2, main_call3_v3, main_call3_v4, main_v47]
/-- The stretch `hostOps1_6` writes only those buffers. -/
theorem hostOps1_6_writes : (hostOps1_6 : List (HloOp τ sig (Elt F))).Forall fun op => op.writes ⊆ (hostOps1_6_W.map (Proc.devRef (τ := τ) .tc)).toFinset :=
  StableHlo.forall_writes_sub_of_map rfl
/-- The stretch `hostOps1_6` writes no argument. -/
theorem hostOps1_6_args : ∀ a ∈ argRefs, a ∉ hostOps1_6_W := ListAll.forall_mem_of_all_decide (by decide +kernel)

/-- The stretch `hostOps1_7` allocates nothing. -/
theorem hostOps1_7_fresh : (hostOps1_7 : List (HloOp τ sig (Elt F))).Forall fun op => op.fresh = ∅ := by
  simp only [List.Forall]; repeat' constructor
/-- The buffers the stretch `hostOps1_7` writes. -/
abbrev hostOps1_7_W : List (Ref sig .tc) := [main_cst_7, main_v48]
/-- The stretch `hostOps1_7` writes only those buffers. -/
theorem hostOps1_7_writes : (hostOps1_7 : List (HloOp τ sig (Elt F))).Forall fun op => op.writes ⊆ (hostOps1_7_W.map (Proc.devRef (τ := τ) .tc)).toFinset :=
  StableHlo.forall_writes_sub_of_map rfl
/-- The stretch `hostOps1_7` writes no argument. -/
theorem hostOps1_7_args : ∀ a ∈ argRefs, a ∉ hostOps1_7_W := ListAll.forall_mem_of_all_decide (by decide +kernel)

/-- The stretch `hostOps1_8` allocates nothing. -/
theorem hostOps1_8_fresh : (hostOps1_8 : List (HloOp τ sig (Elt F))).Forall fun op => op.fresh = ∅ := by
  simp only [List.Forall]; repeat' constructor
/-- The buffers the stretch `hostOps1_8` writes. -/
abbrev hostOps1_8_W : List (Ref sig .tc) := [main_call4_v0, main_call4_v1, main_call4_v2, main_call4_v3, main_call4_v4, main_v49]
/-- The stretch `hostOps1_8` writes only those buffers. -/
theorem hostOps1_8_writes : (hostOps1_8 : List (HloOp τ sig (Elt F))).Forall fun op => op.writes ⊆ (hostOps1_8_W.map (Proc.devRef (τ := τ) .tc)).toFinset :=
  StableHlo.forall_writes_sub_of_map rfl
/-- The stretch `hostOps1_8` writes no argument. -/
theorem hostOps1_8_args : ∀ a ∈ argRefs, a ∉ hostOps1_8_W := ListAll.forall_mem_of_all_decide (by decide +kernel)

/-- The stretch `hostOps1_9` allocates nothing. -/
theorem hostOps1_9_fresh : (hostOps1_9 : List (HloOp τ sig (Elt F))).Forall fun op => op.fresh = ∅ := by
  simp only [List.Forall]; repeat' constructor
/-- The buffers the stretch `hostOps1_9` writes. -/
abbrev hostOps1_9_W : List (Ref sig .tc) := [main_v50, main_v51, main_v52, main_v53]
/-- The stretch `hostOps1_9` writes only those buffers. -/
theorem hostOps1_9_writes : (hostOps1_9 : List (HloOp τ sig (Elt F))).Forall fun op => op.writes ⊆ (hostOps1_9_W.map (Proc.devRef (τ := τ) .tc)).toFinset :=
  StableHlo.forall_writes_sub_of_map rfl
/-- The stretch `hostOps1_9` writes no argument. -/
theorem hostOps1_9_args : ∀ a ∈ argRefs, a ∉ hostOps1_9_W := ListAll.forall_mem_of_all_decide (by decide +kernel)

/-- The buffers as launched. -/
abbrev W0 : Dev nD → Valuation τ sig (Elt F) := fun c b => (s₀ m ρ).mem ((c : Dev nD), b)
/-- At boundary 0 every argument is as launched. -/
theorem W0_args (c : Dev nD) : ∀ a ∈ argRefs, W0 m ρ c (Proc.devRef .tc a) = m ((c : Thread nD τ).loc a) := fun _ _ => rfl
/-- The buffers at boundary 1 of the program. -/
abbrev W1 : Dev nD → Valuation τ sig (Elt F) := fun c => StableHlo.after hostOps0 (W0 m ρ c)
/-- A buffer the stretch before boundary 1 leaves alone keeps its contents. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- At boundary 1 every argument is as launched. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The buffers at boundary 2 of the program. -/
def W2 (c : Dev nD) : Valuation τ sig (Elt F) :=
  Pipeline.withArrays spec0 c (W1 m ρ c) fun w => (dat0 (V1 m ρ) c).arrAt w cfg0.N
/-- At boundary 2 an array of the call holds what the call leaves. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is no array of the call keeps its contents up to boundary 2. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer the stretch before boundary 2 leaves alone keeps its contents. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- No argument is an output of the convolution. -/
theorem argsIn0 : ∀ a ∈ argRefs, ∀ w : Fin cfg0.W, Pipeline.arrRef spec0 w = a → (cfg0.win w).isOut = false :=
  ListAll.forall_mem_of_all_decide (by decide +kernel)
/-- At boundary 2 every argument is as launched. -/
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
/-- The convolution's arrays at its end. -/
theorem hF0 (c : Dev nD) (w : Fin cfg0.W) : (dat0 (V1 m ρ) c).arrAt w cfg0.N = V2 m ρ c (Pipeline.arrRef spec0 w) :=
  (W2_arr m ρ c w).symm
/-- The convolution leaves every other buffer. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers at boundary 3 of the program. -/
abbrev W3 : Dev nD → Valuation τ sig (Elt F) := fun c => StableHlo.after hostOps1 (W2 m ρ c)
/-- A buffer the stretch before boundary 3 leaves alone keeps its contents. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- At boundary 3 every argument is as launched. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The buffers at boundary 4 of the program. -/
abbrev W4 : Dev nD → Valuation τ sig (Elt F) := fun c => StableHlo.after hostOps1_1 (W3 m ρ c)
/-- A buffer the stretch before boundary 4 leaves alone keeps its contents. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
/-- At boundary 4 every argument is as launched. -/
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- The buffers at boundary 5 of the program. -/
abbrev W5 : Dev nD → Valuation τ sig (Elt F) := fun c => StableHlo.after hostOps1_2 (W4 m ρ c)
/-- A buffer the stretch before boundary 5 leaves alone keeps its contents. -/
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
/-- At boundary 5 every argument is as launched. -/
theorem W5_args (c : Dev nD) : ∀ a ∈ argRefs, W5 m ρ c (Proc.devRef .tc a) = m ((c : Thread nD τ).loc a) :=
  fun a ha => (W5_of m ρ c a (hostOps1_2_args a ha)).trans (W4_args m ρ c a ha)
/-- The buffers at boundary 6 of the program. -/
abbrev W6 : Dev nD → Valuation τ sig (Elt F) := fun c => StableHlo.after hostOps1_3 (W5 m ρ c)
/-- A buffer the stretch before boundary 6 leaves alone keeps its contents. -/
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
/-- At boundary 6 every argument is as launched. -/
theorem W6_args (c : Dev nD) : ∀ a ∈ argRefs, W6 m ρ c (Proc.devRef .tc a) = m ((c : Thread nD τ).loc a) :=
  fun a ha => (W6_of m ρ c a (hostOps1_3_args a ha)).trans (W5_args m ρ c a ha)
/-- The buffers at boundary 7 of the program. -/
abbrev W7 : Dev nD → Valuation τ sig (Elt F) := fun c => StableHlo.after hostOps1_4 (W6 m ρ c)
/-- A buffer the stretch before boundary 7 leaves alone keeps its contents. -/
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h
/-- At boundary 7 every argument is as launched. -/
theorem W7_args (c : Dev nD) : ∀ a ∈ argRefs, W7 m ρ c (Proc.devRef .tc a) = m ((c : Thread nD τ).loc a) :=
  fun a ha => (W7_of m ρ c a (hostOps1_4_args a ha)).trans (W6_args m ρ c a ha)
/-- The buffers at boundary 8 of the program. -/
abbrev W8 : Dev nD → Valuation τ sig (Elt F) := fun c => StableHlo.after hostOps1_5 (W7 m ρ c)
/-- A buffer the stretch before boundary 8 leaves alone keeps its contents. -/
theorem W8_of (c : Dev nD) (r : Ref sig .tc) (h : r ∉ hostOps1_5_W) : W8 m ρ c (Proc.devRef .tc r) = W7 m ρ c (Proc.devRef .tc r) :=
  StableHlo.after_of_writes_sub hostOps1_5 _ hostOps1_5_writes h
/-- At boundary 8 every argument is as launched. -/
theorem W8_args (c : Dev nD) : ∀ a ∈ argRefs, W8 m ρ c (Proc.devRef .tc a) = m ((c : Thread nD τ).loc a) :=
  fun a ha => (W8_of m ρ c a (hostOps1_5_args a ha)).trans (W7_args m ρ c a ha)
/-- The buffers at boundary 9 of the program. -/
abbrev W9 : Dev nD → Valuation τ sig (Elt F) := fun c => StableHlo.after hostOps1_6 (W8 m ρ c)
/-- A buffer the stretch before boundary 9 leaves alone keeps its contents. -/
theorem W9_of (c : Dev nD) (r : Ref sig .tc) (h : r ∉ hostOps1_6_W) : W9 m ρ c (Proc.devRef .tc r) = W8 m ρ c (Proc.devRef .tc r) :=
  StableHlo.after_of_writes_sub hostOps1_6 _ hostOps1_6_writes h
/-- At boundary 9 every argument is as launched. -/
theorem W9_args (c : Dev nD) : ∀ a ∈ argRefs, W9 m ρ c (Proc.devRef .tc a) = m ((c : Thread nD τ).loc a) :=
  fun a ha => (W9_of m ρ c a (hostOps1_6_args a ha)).trans (W8_args m ρ c a ha)
/-- The buffers at boundary 10 of the program. -/
abbrev W10 : Dev nD → Valuation τ sig (Elt F) := fun c => StableHlo.after hostOps1_7 (W9 m ρ c)
/-- A buffer the stretch before boundary 10 leaves alone keeps its contents. -/
theorem W10_of (c : Dev nD) (r : Ref sig .tc) (h : r ∉ hostOps1_7_W) : W10 m ρ c (Proc.devRef .tc r) = W9 m ρ c (Proc.devRef .tc r) :=
  StableHlo.after_of_writes_sub hostOps1_7 _ hostOps1_7_writes h
/-- At boundary 10 every argument is as launched. -/
theorem W10_args (c : Dev nD) : ∀ a ∈ argRefs, W10 m ρ c (Proc.devRef .tc a) = m ((c : Thread nD τ).loc a) :=
  fun a ha => (W10_of m ρ c a (hostOps1_7_args a ha)).trans (W9_args m ρ c a ha)
/-- The buffers at boundary 11 of the program. -/
abbrev W11 : Dev nD → Valuation τ sig (Elt F) := fun c => StableHlo.after hostOps1_8 (W10 m ρ c)
/-- A buffer the stretch before boundary 11 leaves alone keeps its contents. -/
theorem W11_of (c : Dev nD) (r : Ref sig .tc) (h : r ∉ hostOps1_8_W) : W11 m ρ c (Proc.devRef .tc r) = W10 m ρ c (Proc.devRef .tc r) :=
  StableHlo.after_of_writes_sub hostOps1_8 _ hostOps1_8_writes h
/-- At boundary 11 every argument is as launched. -/
theorem W11_args (c : Dev nD) : ∀ a ∈ argRefs, W11 m ρ c (Proc.devRef .tc a) = m ((c : Thread nD τ).loc a) :=
  fun a ha => (W11_of m ρ c a (hostOps1_8_args a ha)).trans (W10_args m ρ c a ha)
/-- The buffers at boundary 12 of the program. -/
abbrev W12 : Dev nD → Valuation τ sig (Elt F) := fun c => StableHlo.after hostOps1_9 (W11 m ρ c)
/-- A buffer the stretch before boundary 12 leaves alone keeps its contents. -/
theorem W12_of (c : Dev nD) (r : Ref sig .tc) (h : r ∉ hostOps1_9_W) : W12 m ρ c (Proc.devRef .tc r) = W11 m ρ c (Proc.devRef .tc r) :=
  StableHlo.after_of_writes_sub hostOps1_9 _ hostOps1_9_writes h
/-- At boundary 12 every argument is as launched. -/
theorem W12_args (c : Dev nD) : ∀ a ∈ argRefs, W12 m ρ c (Proc.devRef .tc a) = m ((c : Thread nD τ).loc a) :=
  fun a ha => (W12_of m ρ c a (hostOps1_9_args a ha)).trans (W11_args m ρ c a ha)
abbrev V12 : (c : Dev nD) → (b : Ref sig .tc) → Buf (Elt F) ((c : Thread nD τ).loc b) := fun c b => W12 m ρ c b
/-- The buffers at boundary 13 of the program. -/
def W13 (c : Dev nD) : Valuation τ sig (Elt F) :=
  Pipeline.withArrays spec1 c (W12 m ρ c) fun w => (dat1 (V12 m ρ) c).arrAt w cfg1.N
/-- At boundary 13 an array of the call holds what the call leaves. -/
theorem W13_arr (c : Dev nD) (w : Fin cfg1.W) :
    W13 m ρ c (Proc.devRef .tc (Pipeline.arrRef spec1 w)) = (dat1 (V12 m ρ) c).arrAt w cfg1.N := by
  unfold W13; exact Pipeline.withArrays_arr spec1 launch1.win.arr_inj c _ _ w
/-- A buffer that is no array of the call keeps its contents up to boundary 13. -/
theorem W13_of_ne (c : Dev nD) (b : Ref sig .tc) (hb : ∀ w, Pipeline.arrRef spec1 w ≠ b) :
    W13 m ρ c (Proc.devRef .tc b) = W12 m ρ c (Proc.devRef .tc b) := by
  unfold W13; exact Pipeline.withArrays_of_ne spec1 c _ _ b hb
/-- A buffer the stretch before boundary 13 leaves alone keeps its contents. -/
theorem W13_of (c : Dev nD) (r : Ref sig .tc) (h : ∀ w : Fin cfg1.W, Pipeline.arrRef spec1 w = r → (cfg1.win w).isOut = false) :
    W13 m ρ c (Proc.devRef .tc r) = W12 m ρ c (Proc.devRef .tc r) := by
  by_cases hw : ∃ w : Fin cfg1.W, Pipeline.arrRef spec1 w = r
  · obtain ⟨w, rfl⟩ := hw
    exact (W13_arr m ρ c w).trans (((dat1 (V12 m ρ) c).arrAt_in w (h w rfl) _).trans (A_eq1 (V12 m ρ) c w))
  · exact W13_of_ne m ρ c r fun w e => hw ⟨w, e⟩
/-- No argument is an output of the head. -/
theorem argsIn1 : ∀ a ∈ argRefs, ∀ w : Fin cfg1.W, Pipeline.arrRef spec1 w = a → (cfg1.win w).isOut = false :=
  ListAll.forall_mem_of_all_decide (by decide +kernel)
/-- At boundary 13 every argument is as launched. -/
theorem W13_args (c : Dev nD) : ∀ a ∈ argRefs, W13 m ρ c (Proc.devRef .tc a) = m ((c : Thread nD τ).loc a) :=
  fun a ha => (W13_of m ρ c a (argsIn1 a ha)).trans (W12_args m ρ c a ha)
abbrev V13 : (c : Dev nD) → (b : Ref sig .tc) → Buf (Elt F) ((c : Thread nD τ).loc b) := fun c b => W13 m ρ c b
/-- The head's arrays at its end. -/
theorem hF1 (c : Dev nD) (w : Fin cfg1.W) : (dat1 (V12 m ρ) c).arrAt w cfg1.N = V13 m ρ c (Pipeline.arrRef spec1 w) :=
  (W13_arr m ρ c w).symm
/-- The head leaves every other buffer. -/
theorem hrest1 (c : Dev nD) : ∀ b, b ∉ Finset.univ.image (Pipeline.arrRef spec1) → V13 m ρ c b = V12 m ρ c b :=
  fun b hb => W13_of_ne m ρ c b fun w e => hb (Finset.mem_image.mpr ⟨w, Finset.mem_univ _, e⟩)

/-- At boundary 13 argument 0 is as launched. -/
theorem W13_main_arg0 (c : Dev nD) : W13 m ρ c (Proc.devRef .tc main_arg0) = m ((c : Thread nD τ).loc main_arg0) :=
  W13_args m ρ c main_arg0 (by decide)
/-- At boundary 13 argument 1 is as launched. -/
theorem W13_main_arg1 (c : Dev nD) : W13 m ρ c (Proc.devRef .tc main_arg1) = m ((c : Thread nD τ).loc main_arg1) :=
  W13_args m ρ c main_arg1 (by decide)
/-- At boundary 13 argument 2 is as launched. -/
theorem W13_main_arg2 (c : Dev nD) : W13 m ρ c (Proc.devRef .tc main_arg2) = m ((c : Thread nD τ).loc main_arg2) :=
  W13_args m ρ c main_arg2 (by decide)
/-- At boundary 13 argument 3 is as launched. -/
theorem W13_main_arg3 (c : Dev nD) : W13 m ρ c (Proc.devRef .tc main_arg3) = m ((c : Thread nD τ).loc main_arg3) :=
  W13_args m ρ c main_arg3 (by decide)
/-- At boundary 13 argument 4 is as launched. -/
theorem W13_main_arg4 (c : Dev nD) : W13 m ρ c (Proc.devRef .tc main_arg4) = m ((c : Thread nD τ).loc main_arg4) :=
  W13_args m ρ c main_arg4 (by decide)
/-- At boundary 13 argument 5 is as launched. -/
theorem W13_main_arg5 (c : Dev nD) : W13 m ρ c (Proc.devRef .tc main_arg5) = m ((c : Thread nD τ).loc main_arg5) :=
  W13_args m ρ c main_arg5 (by decide)
/-- At boundary 13 argument 6 is as launched. -/
theorem W13_main_arg6 (c : Dev nD) : W13 m ρ c (Proc.devRef .tc main_arg6) = m ((c : Thread nD τ).loc main_arg6) :=
  W13_args m ρ c main_arg6 (by decide)
/-- At boundary 13 argument 7 is as launched. -/
theorem W13_main_arg7 (c : Dev nD) : W13 m ρ c (Proc.devRef .tc main_arg7) = m ((c : Thread nD τ).loc main_arg7) :=
  W13_args m ρ c main_arg7 (by decide)
/-- At boundary 13 argument 8 is as launched. -/
theorem W13_main_arg8 (c : Dev nD) : W13 m ρ c (Proc.devRef .tc main_arg8) = m ((c : Thread nD τ).loc main_arg8) :=
  W13_args m ρ c main_arg8 (by decide)
/-- At boundary 13 argument 9 is as launched. -/
theorem W13_main_arg9 (c : Dev nD) : W13 m ρ c (Proc.devRef .tc main_arg9) = m ((c : Thread nD τ).loc main_arg9) :=
  W13_args m ρ c main_arg9 (by decide)
/-- At boundary 13 argument 10 is as launched. -/
theorem W13_main_arg10 (c : Dev nD) : W13 m ρ c (Proc.devRef .tc main_arg10) = m ((c : Thread nD τ).loc main_arg10) :=
  W13_args m ρ c main_arg10 (by decide)

abbrev adm : (p : Fin 2) → (pcfgs (F := F) p).Adm := fun p => (cfgs p).toPCfg_adm
/-- The two calls' data. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V12 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer outside the calls' own is held by the program. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m ρ c) ∗ ∃ r, prngReg c r)

set_option backward.isDefEq.respectTransparency.types false in
/-- The first call as a segment of the program. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m ρ 0 c).Φ 0 := hin0 (V1 m ρ) c
    unfold Pipeline.ΦA at h
    iintro ⟨Hp, -, Hr⟩
    iapply h
    isplitl [Hr]; · iexact Hr
    iexact Hp
  hout c := by
    rw [Pipeline.ownSems0_none]
    have h : (pdats m ρ 0 c).Φ (Fin.last (Pipeline.pin (pcfgs (F := F)) adm 0).N) ⊢ (Pipeline.ΦA spec0 c : sProp 𝕄) := hout0 (V1 m ρ) c
    unfold Pipeline.ΦA at h
    iintro H
    ihave H2 := h $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment of the program. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V12 m ρ) c).loose
  hwaits := Pipeline.hwaits_of_owed_zero _ _ _ _ L lv 1 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V12 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V12 m ρ c) (A_eq1 (V12 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V12 m ρ c) (V13 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .host (hseg hostOps1_9 hostOps1_9_sub hostOps1_9_fresh (W11 m ρ)),
    .region (reg1 m ρ) ]
/-- The program is the run of its segments. -/
theorem main_run (c : Dev nD) : main (F := F) c = Pipeline.Seg.run (segs m ρ) := (main_chain c).trans (by chain_rfl)

/-- Every counter belongs to a call. -/
theorem no_unscoped : ∀ sm : SemLoc sig, sm.isScoped .tc = true := by decide

set_option backward.isDefEq.respectTransparency.types false in
/-- Every execution ends, the arguments unchanged, the result at the last boundary's contents, all counters zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ (∀ c : Dev nD, r.2.mem ((c.tc : Thread nD τ).loc main_v54) = W13 m ρ c (Proc.devRef .tc main_v54))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨(fun c =>
      ⟨(h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩), (fun c => h c _ (mem_uc main_v54 (by decide))), funext fun g => hz g (.inr (no_unscoped g.2))⟩)

end Cert.KernelIdeal.Full

end
-- ==== Proof.RefRun.lean ====
module

public import proofs.«01_k».proof.Proof.Gen.ReferenceIdeal.Run
-- ==== Proof.ConvBlock.lean ====
/- What one grid point of the convolution computes, written once: the patch matrix of a window of 24 rows, the
   clamped product of one chunk of eight output rows, the four running sums, and the masked, scaled total of one
   image.  The stored pieces of both executions are these. -/
module

public import proofs.«01_k».proof.Proof.KernelIdealConv
public import Idealize.ShloMosaic.Lib.WritesUnit
public import Idealize.ShloMosaic.Lib.VecWindow

@[expose] public section

set_option maxRecDepth 16384

noncomputable section

namespace Cert.KernelIdeal.Conv

open Cert.KernelIdeal Cert.KernelIdeal.Gen Cert.KernelIdeal.Full
open Idealize.ShloMosaic Idealize.ShloMosaic.TcCoe Idealize.ShloMosaic.Tactic

variable {F : FTy → Type} [FloatOps F] [Named F]

/-- The window's rows at one of the three column shifts, as a matrix of 72 rows. -/
def shifted (X : Vec F S1x3x24x384 .bf16) (off : Fin 3 → ℕ) (h : S3x24x384.Slices off S3x24x256) : FVec F S72x256 .bf16 :=
  shapeCast S72x256 (extractStridedSlice S3x24x256 off (shapeCast S3x24x384 X shapeCasts_S1x3x24x384_S3x24x384) h) shapeCasts_S3x24x256_S72x256

/-- The patch matrix of a window: the three shifts one under another, and the row of ones. -/
def patch (X : Vec F S1x3x24x384 .bf16) : FVec F S217x256 .bf16 :=
  concatenate S217x256 0
    [⟨S72x256, shifted X ![0, 0, 126] slices_S3x24x384_o0_0_126_S3x24x256⟩,
     ⟨S72x256, shifted X ![0, 0, 127] slices_S3x24x384_o0_0_127_S3x24x256⟩,
     ⟨S72x256, shifted X ![0, 0, 128] slices_S3x24x384_o0_0_128_S3x24x256⟩,
     ⟨S1x256, broadcast S1x256 (Scalar.ofBits .bf16 0x3F80#16)⟩]
    concatenates_S72x256_S72x256_S72x256_S1x256_S217x256_d0

/-- One chunk: the weights times the patch matrix, clamped at zero, its eight row groups added. -/
def chunk (X : Vec F S1x3x24x384 .bf16) (w : Vec F S512x217 .bf16) : FVec F S64x256 .f32 :=
  multiReduction .add [0] S64x256
    (shapeCast S8x64x256
      (maximumf
        (matmul dot_S512x217_S217x256_S512x256_1_0_0_1_n_n none (shapeCast S512x217 w shapeCasts_S512x217_S512x217) (patch X)
          (constant S512x256 .f32 0x00000000#32))
        (broadcast S512x256 (Scalar.ofBits .f32 0x00000000#32)))
      shapeCasts_S512x256_S8x64x256)
    0x00000000#32 reduces_S8x64x256_S64x256 (.inl rfl) rfl

/-- The running sum number `j`, over the chunks `j`, `j + 4`, …, `j + 24`. -/
def acc (X : Fin 28 → Vec F S1x3x24x384 .bf16) (w : Vec F S512x217 .bf16) (j : Fin 4) : FVec F S64x256 .f32 :=
  addf (addf (addf (addf (addf (addf (addf (broadcast S64x256 (Scalar.ofBits .f32 0x00000000#32))
    (chunk (X ⟨j.1, by omega⟩) w)) (chunk (X ⟨j.1 + 4, by omega⟩) w)) (chunk (X ⟨j.1 + 8, by omega⟩) w))
    (chunk (X ⟨j.1 + 12, by omega⟩) w)) (chunk (X ⟨j.1 + 16, by omega⟩) w)) (chunk (X ⟨j.1 + 20, by omega⟩) w))
    (chunk (X ⟨j.1 + 24, by omega⟩) w)

/-- The four running sums added, the lanes outside `1 … 224` set to zero, and the lanes added. -/
def total (X : Fin 28 → Vec F S1x3x24x384 .bf16) (w : Vec F S512x217 .bf16) : FVec F S64 .f32 :=
  multiReduction .add [1] S64
    (select
      (broadcastTo S64x256
        (shapeCast S1x256
          (andi (cmpi .sge (iota .tc S1x256 32 [1] iota_S1x256_d1_w32) (broadcast S1x256 1#32))
            (cmpi .slt (iota .tc S1x256 32 [1] iota_S1x256_d1_w32) (broadcast S1x256 225#32)))
          shapeCasts_S1x256_S1x256)
        broadcasts_S1x256_S64x256)
      (addf (addf (acc X w 0) (acc X w 1)) (addf (acc X w 2) (acc X w 3)))
      (broadcast S64x256 (Scalar.ofBits .f32 0x00000000#32)))
    0x00000000#32 reduces_S64x256_S64 (.inl rfl) rfl

/-- One image's pooled column: the total times the named reciprocal. -/
def image (X : Fin 28 → Vec F S1x3x24x384 .bf16) (w : Vec F S512x217 .bf16) : FVec F S1x64x1 .f32 :=
  shapeCast S1x64x1
    (mulf (shapeCast S64x1 (total X w) shapeCasts_S64_S64x1)
      (broadcast S64x1 (Named.named κ "inv_hw" 0x37A72F05#32)))
    shapeCasts_S64x1_S1x64x1

/-- The window of chunk `n` of image `s` lies inside the scratch. -/
theorem window_inb (s : Fin 2) (n : Fin 28) (a : Fin 4) :
    ![s.1, 0, 8 * n.1 + 8, 0] a + S1x3x24x384.size a ≤ S2x3x248x384.size a := by
  have hs := s.2
  have hn := n.2
  fin_cases a <;> simp [S1x3x24x384, S2x3x248x384] <;> omega

/-- The window of chunk `n` of image `s` of what the scratch holds. -/
def windowOf (y : Vec F S2x3x248x384 .bf16) (s : Fin 2) (n : Fin 28) : Vec F S1x3x24x384 .bf16 :=
  View.ld y (Rect.unit (s := S2x3x248x384) ![s.1, 0, 8 * n.1 + 8, 0] S1x3x24x384.size (window_inb s n))

/-- One image of the input block as it is stored, rounded. -/
def stored (x : Vec F S1x3x224x224 .f32) : FVec F S1x3x224x224 .bf16 :=
  shapeCast S1x3x224x224 (truncf .bf16 (shapeCast S3x224x224 x shapeCasts_S1x3x224x224_S3x224x224) bitsLt_bf16_f32) shapeCasts_S3x224x224_S1x3x224x224

/-- The two stores of the input block into the scratch's interior. -/
def inner (x0 : Vec F S2x3x224x224 .f32) : List (View.Piece (Elt F) S2x3x248x384 .bf16) :=
  [⟨Rect.unit ![1, 0, 16, 128] S1x3x224x224.size inb_S2x3x248x384_S1x3x224x224_1_0_16_128, stored (View.ld x0 (Rect.unit ![1, 0, 0, 0] S1x3x224x224.size inb_S2x3x224x224_S1x3x224x224_1_0_0_0))⟩,
   ⟨Rect.unit ![0, 0, 16, 128] S1x3x224x224.size inb_S2x3x248x384_S1x3x224x224_0_0_16_128, stored (View.ld x0 (Rect.unit ![0, 0, 0, 0] S1x3x224x224.size inb_S2x3x224x224_S1x3x224x224_0_0_0_0))⟩]

/-- The store of zeros over the whole scratch. -/
def clear : View.Piece (Elt F) S2x3x248x384 .bf16 :=
  ⟨Rect.unit ![0, 0, 0, 0] S2x3x248x384.size inb_S2x3x248x384_S2x3x248x384_0_0_0_0,
    shapeCast S2x3x248x384 (broadcast S2x3x248x384 (Scalar.ofBits .bf16 0x0000#16)) shapeCasts_S2x3x248x384_S2x3x248x384⟩

/-- The two stores of the output block. -/
def outer (X : Fin 2 → Fin 28 → Vec F S1x3x24x384 .bf16) (w : Vec F S512x217 .bf16) : List (View.Piece (Elt F) S2x64x1 .f32) :=
  [⟨Rect.unit ![1, 0, 0] S1x64x1.size inb_S2x64x1_S1x64x1_1_0_0, image (X 1) w⟩,
   ⟨Rect.unit ![0, 0, 0] S1x64x1.size inb_S2x64x1_S1x64x1_0_0_0, image (X 0) w⟩]

set_option maxHeartbeats 4000000 in
/-- At the first point the scratch is cleared, then takes the input block. -/
theorem scratch_A (c : Dev nD) (i : grid0.Coords) (arg1 : Memref sig .tc .vmem S2x3x224x224 .f32) (harg1 : arg1.IsWhole) (arg2 : Memref sig .tc .vmem S512x217 .bf16) (harg2 : arg2.IsWhole) (arg3 : Memref sig .tc .vmem S2x64x1 .f32) (harg3 : arg3.IsWhole) (arg4 : Memref sig .tc .vmem S2x3x248x384 .bf16) (harg4 : arg4.IsWhole) (hc0 : cond0_0 i) (x0 : Vec F S2x3x224x224 .f32) (x1 : Vec F S512x217 .bf16) :
    (kernelRun0_A c i arg1 harg1 arg2 harg2 arg3 harg3 arg4 harg4 hc0 x0 x1).2.1 = inner x0 ++ [clear] := by
  unfold kernelRun0_A
  dsimp only
  sl_unfold_words
  rw [View.readAt_eq_ld, View.readAt_eq_ld, harg1.read_unread]
  rfl

set_option maxHeartbeats 4000000 in
/-- At a later point the scratch takes the input block. -/
theorem scratch_B (c : Dev nD) (i : grid0.Coords) (arg1 : Memref sig .tc .vmem S2x3x224x224 .f32) (harg1 : arg1.IsWhole) (arg2 : Memref sig .tc .vmem S512x217 .bf16) (harg2 : arg2.IsWhole) (arg3 : Memref sig .tc .vmem S2x64x1 .f32) (harg3 : arg3.IsWhole) (arg4 : Memref sig .tc .vmem S2x3x248x384 .bf16) (harg4 : arg4.IsWhole) (hc0 : ¬cond0_0 i) (x0 : Vec F S2x3x224x224 .f32) (x1 : Vec F S512x217 .bf16) (xs0 : Vec F S2x3x248x384 .bf16) :
    (kernelRun0_B c i arg1 harg1 arg2 harg2 arg3 harg3 arg4 harg4 hc0 x0 x1 xs0).2.1 = inner x0 := by
  unfold kernelRun0_B
  dsimp only
  sl_unfold_words
  rw [View.readAt_eq_ld, View.readAt_eq_ld, harg1.read_unread]
  rfl

set_option maxHeartbeats 4000000 in
/-- At a later point the two stored columns are those of the windows read after the stores. -/
theorem output_B (c : Dev nD) (i : grid0.Coords) (arg1 : Memref sig .tc .vmem S2x3x224x224 .f32) (harg1 : arg1.IsWhole) (arg2 : Memref sig .tc .vmem S512x217 .bf16) (harg2 : arg2.IsWhole) (arg3 : Memref sig .tc .vmem S2x64x1 .f32) (harg3 : arg3.IsWhole) (arg4 : Memref sig .tc .vmem S2x3x248x384 .bf16) (harg4 : arg4.IsWhole) (hc0 : ¬cond0_0 i) (x0 : Vec F S2x3x224x224 .f32) (x1 : Vec F S512x217 .bf16) (xs0 : Vec F S2x3x248x384 .bf16) :
    (kernelRun0_B c i arg1 harg1 arg2 harg2 arg3 harg3 arg4 harg4 hc0 x0 x1 xs0).1
      = outer (windowOf (arg4.view.read (Elt F) (arg4.view.writes (Elt F) (harg4.unread xs0) (kernelRun0_B c i arg1 harg1 arg2 harg2 arg3 harg3 arg4 harg4 hc0 x0 x1 xs0).2.1)))
          (View.ld (arg2.view.read (Elt F) (harg2.unread x1)) (Rect.unit ![0, 0] S512x217.size inb_S512x217_S512x217_0_0)) := by
  rfl

set_option maxHeartbeats 4000000 in
/-- At the first point likewise. -/
theorem output_A (c : Dev nD) (i : grid0.Coords) (arg1 : Memref sig .tc .vmem S2x3x224x224 .f32) (harg1 : arg1.IsWhole) (arg2 : Memref sig .tc .vmem S512x217 .bf16) (harg2 : arg2.IsWhole) (arg3 : Memref sig .tc .vmem S2x64x1 .f32) (harg3 : arg3.IsWhole) (arg4 : Memref sig .tc .vmem S2x3x248x384 .bf16) (harg4 : arg4.IsWhole) (hc0 : cond0_0 i) (x0 : Vec F S2x3x224x224 .f32) (x1 : Vec F S512x217 .bf16) :
    (kernelRun0_A c i arg1 harg1 arg2 harg2 arg3 harg3 arg4 harg4 hc0 x0 x1).1
      = outer (windowOf (arg4.view.read (Elt F) (arg4.view.writes (Elt F) arg4.view.junk (kernelRun0_A c i arg1 harg1 arg2 harg2 arg3 harg3 arg4 harg4 hc0 x0 x1).2.1)))
          (View.ld (arg2.view.read (Elt F) (harg2.unread x1)) (Rect.unit ![0, 0] S512x217.size inb_S512x217_S512x217_0_0)) := by
  rfl

end Cert.KernelIdeal.Conv

end
-- ==== Proof.Math.lean ====
/- The mathematics both programs are compared with: an image with a border of zeros, the convolution of it at one
   output entry, and facts of sums of extended reals. -/
module

public import Mathlib.Data.EReal.Operations
public import Mathlib.Algebra.BigOperators.Fin
public import Mathlib.Algebra.Order.BigOperators.Group.Finset
public import Mathlib.Logic.Equiv.Fin.Basic

@[expose] public section

noncomputable section

namespace Cert.Math

/-- An image with one row and one column of zeros on every side, at row `y` and column `z` of the larger image. -/
def bordered (x : Fin 3 → Fin 224 → Fin 224 → EReal) (i : Fin 3) (y z : ℕ) : EReal :=
  if h : (1 ≤ y ∧ y ≤ 224) ∧ 1 ≤ z ∧ z ≤ 224 then x i ⟨y - 1, by omega⟩ ⟨z - 1, by omega⟩ else 0

/-- The convolution of one output channel, with its bias, at row `y` and column `z`. -/
def convAt (x : Fin 3 → Fin 224 → Fin 224 → EReal) (W : Fin 3 → Fin 3 → Fin 3 → EReal) (b : EReal) (y z : ℕ) : EReal :=
  (∑ kw : Fin 3, ∑ i : Fin 3, ∑ kh : Fin 3, W i kh kw * bordered x i (y + kh.1) (z + kw.1)) + b

/-- The clamped convolution summed over the output plane. -/
def poolSum (x : Fin 3 → Fin 224 → Fin 224 → EReal) (W : Fin 3 → Fin 3 → Fin 3 → EReal) (b : EReal) : EReal :=
  ∑ y : Fin 224, ∑ z : Fin 224, max (convAt x W b y.1 z.1) 0

/-- A sum over `m * n` entries as a double sum. -/
theorem sum_mul (m n : ℕ) (f : Fin (m * n) → EReal) :
    ∑ k, f k = ∑ a : Fin m, ∑ b : Fin n, f ⟨a.1 * n + b.1, by
      have := a.2; have := b.2; nlinarith [Nat.mul_le_mul_right n (show a.1 + 1 ≤ m from a.2)]⟩ := by
  rw [← finProdFinEquiv.sum_comp, Fintype.sum_prod_type]
  refine Finset.sum_congr rfl fun a _ => Finset.sum_congr rfl fun b _ => congrArg f (Fin.ext ?_)
  simp [finProdFinEquiv, Nat.mul_comm, Nat.add_comm]

/-- Twenty-four rows against a column of weights that is nonzero on three consecutive rows only. -/
theorem sum_band (d : Fin 8) (W : Fin 3 → EReal) (P : ℕ → EReal) :
    (∑ r : Fin 24, (∑ kh : Fin 3, (if r.1 = d.1 + 7 + kh.1 then 1 else 0) * W kh) * P r.1)
      = ∑ kh : Fin 3, W kh * P (d.1 + 7 + kh.1) := by
  have h1 : ∀ r : Fin 24, (∑ kh : Fin 3, (if r.1 = d.1 + 7 + kh.1 then (1 : EReal) else 0) * W kh) * P r.1
      = ∑ kh : Fin 3, (if r.1 = d.1 + 7 + kh.1 then W kh * P (d.1 + 7 + kh.1) else 0) := by
    intro r
    simp only [Fin.sum_univ_three, Fin.val_zero, Fin.val_one, Fin.val_two]
    split_ifs with a b c <;> first | omega | simp [*]
  simp only [h1]
  rw [Finset.sum_comm]
  refine Finset.sum_congr rfl fun kh _ => ?_
  rw [Finset.sum_eq_single (⟨d.1 + 7 + kh.1, by omega⟩ : Fin 24)]
  · simp
  · intro r _ hr
    rw [if_neg fun h => hr (Fin.ext h)]
  · simp

/-- Twenty-eight groups of eight rows are two hundred and twenty-four rows. -/
theorem sum_rows (f : ℕ → EReal) : ∑ n : Fin 28, ∑ d : Fin 8, f (8 * n.1 + d.1) = ∑ y : Fin 224, f y.1 := by
  rw [sum_mul 28 8 fun y => f y.1]
  simp [Nat.mul_comm]

/-- Lanes `1 … 224` of two hundred and fifty-six are the two hundred and twenty-four columns. -/
theorem sum_lanes (f : ℕ → EReal) :
    ∑ l : Fin 256, (if 1 ≤ l.1 ∧ l.1 < 225 then f (l.1 - 1) else 0) = ∑ z : Fin 224, f z.1 := by
  rw [Fin.sum_univ_eq_sum_range (fun l => if 1 ≤ l ∧ l < 225 then f (l - 1) else 0) 256,
    Fin.sum_univ_eq_sum_range (fun l => f l) 224, ← Finset.sum_filter]
  refine Finset.sum_nbij' (fun l => l - 1) (fun z => z + 1) ?_ ?_ ?_ ?_ ?_ <;>
    simp only [Finset.mem_filter, Finset.mem_range] <;> intros <;> first | omega | trivial

/-- A nonnegative real factor goes into a finite sum. -/
theorem mul_sum_coe {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (EReal.coe_nonneg.mpr ha) (EReal.coe_ne_top a) _ _

/-- A factor on the right goes into a finite sum of nonnegative terms. -/
theorem sum_mul_nonneg {ι : Type} (s : Finset ι) (c : EReal) (f : ι → EReal) (hf : ∀ i, 0 ≤ f i) :
    (∑ i ∈ s, f i) * c = ∑ i ∈ s, f i * c := by
  classical
  induction s using Finset.induction_on with
  | empty => simp
  | insert i s hi ih =>
    rw [Finset.sum_insert hi, Finset.sum_insert hi, ← ih]
    exact EReal.right_distrib_of_nonneg (hf i) (Finset.sum_nonneg fun j _ => hf j)

end Cert.Math

end
-- ==== Proof.ConvValue.lean ====
/- One grid point of the convolution over the extended reals: a chunk is the clamped convolution of eight rows, an
   image's column is the clamped convolution summed over its plane and scaled. -/
module

public import proofs.«01_k».proof.Proof.ConvBlock
public import proofs.«01_k».proof.Proof.Math
public import Idealize.ShloMosaic.Lib.Pointwise

@[expose] public section

set_option maxRecDepth 16384

noncomputable section

namespace Cert.KernelIdeal.Conv

open Cert.KernelIdeal Cert.KernelIdeal.Gen Cert.KernelIdeal.Full Cert.Math
open Idealize.ShloMosaic Idealize.ShloMosaic.TcCoe Idealize.ShloMosaic.Tactic

/-- The patch matrix at row `k`: which shift, which channel and which row `k` counts. -/
theorem patch_apply (X : Vec Ideal S1x3x24x384 .bf16) (k : Fin 217) (l : Fin 256) :
    patch (F := Ideal) X (ix2 k l)
      = if h : k.1 < 72 then X (ix4 0 ⟨k.1 / 24, by omega⟩ ⟨k.1 % 24, by omega⟩ ⟨126 + l.1, by omega⟩)
        else if h : k.1 - 72 < 72 then X (ix4 0 ⟨(k.1 - 72) / 24, by omega⟩ ⟨(k.1 - 72) % 24, by omega⟩ ⟨127 + l.1, by omega⟩)
        else if h : k.1 - 72 - 72 < 72 then
          X (ix4 0 ⟨(k.1 - 72 - 72) / 24, by omega⟩ ⟨(k.1 - 72 - 72) % 24, by omega⟩ ⟨128 + l.1, by omega⟩)
        else 1 := by
  pointwise [patch, shifted]

/-- Row `kw * 72 + i * 24 + r` of the patch matrix is row `r` of channel `i`, shifted by `kw` columns. -/
theorem patch_at (X : Vec Ideal S1x3x24x384 .bf16) (kw i : Fin 3) (r : Fin 24) (l : Fin 256) :
    patch (F := Ideal) X (ix2 ⟨kw.1 * 72 + (i.1 * 24 + r.1), by omega⟩ l) = X (ix4 0 i r ⟨126 + kw.1 + l.1, by omega⟩) := by
  have hi := i.2
  have hr := r.2
  have same : ∀ (a a' : Fin 3) (b b' : Fin 24) (c c' : Fin 384), a.1 = a'.1 → b.1 = b'.1 → c.1 = c'.1 →
      X (ix4 0 a b c) = X (ix4 0 a' b' c') := by
    intro a a' b b' c c' h1 h2 h3
    rw [Fin.ext h1, Fin.ext h2, Fin.ext h3]
  rw [patch_apply]
  have hk : kw.1 = 0 ∨ kw.1 = 1 ∨ kw.1 = 2 := by omega
  rcases hk with hk | hk | hk
  · rw [dif_pos (by dsimp only; omega)]
    apply same <;> dsimp only <;> omega
  · rw [dif_neg (by dsimp only; omega), dif_pos (by dsimp only; omega)]
    apply same <;> dsimp only <;> omega
  · rw [dif_neg (by dsimp only; omega), dif_neg (by dsimp only; omega), dif_pos (by dsimp only; omega)]
    apply same <;> dsimp only <;> omega

/-- The last row of the patch matrix is ones. -/
theorem patch_last (X : Vec Ideal S1x3x24x384 .bf16) (l : Fin 256) :
    patch (F := Ideal) X (ix2 (Fin.last 216) l) = 1 := by
  rw [patch_apply, dif_neg (by decide), dif_neg (by decide), dif_neg (by decide)]

/-- What the weight matrix holds: at row `d * 64 + o` the weights of channel `o` moved down by `d` rows, and its bias last. -/
structure Weights (w : Vec Ideal S512x217 .bf16) (W : Fin 64 → Fin 3 → Fin 3 → Fin 3 → EReal) (b : Fin 64 → EReal) : Prop where
  /-- The columns of the three shifts. -/
  band : ∀ (d : Fin 8) (o : Fin 64) (kw i : Fin 3) (r : Fin 24),
    w (ix2 ⟨d.1 * 64 + o.1, by omega⟩ ⟨kw.1 * 72 + (i.1 * 24 + r.1), by omega⟩)
      = ∑ kh : Fin 3, (if r.1 = d.1 + 7 + kh.1 then 1 else 0) * W o i kh kw
  /-- The column of the ones row. -/
  bias : ∀ (d : Fin 8) (o : Fin 64), w (ix2 ⟨d.1 * 64 + o.1, by omega⟩ (Fin.last 216)) = b o

/-- One chunk at a lane of the image: the clamped convolution of its eight rows, added. -/
theorem chunk_at {w : Vec Ideal S512x217 .bf16} {W b} (hw : Weights w W b) (x : Fin 3 → Fin 224 → Fin 224 → EReal)
    (n : ℕ) (X : Vec Ideal S1x3x24x384 .bf16)
    (hX : ∀ i r q, X (ix4 0 i r q) = bordered x i (8 * n + 8 + r.1 - 15) (q.1 - 127)) (o : Fin 64) (l : Fin 256) (hl : 1 ≤ l.1) :
    chunk (F := Ideal) X w (ix2 o l) = ∑ d : Fin 8, max (convAt x (W o) (b o) (8 * n + d.1) (l.1 - 1)) 0 := by
  have h0 : chunk (F := Ideal) X w (ix2 o l)
      = ∑ d : Fin 8, max (∑ k : Fin 217, w (ix2 ⟨d.1 * 64 + o.1, by omega⟩ k) * patch (F := Ideal) X (ix2 k l)) 0 := by
    pointwise [chunk]
  rw [h0]
  refine Finset.sum_congr rfl fun d _ => congrArg (max · 0) ?_
  rw [Fin.sum_univ_castSucc (n := 216), patch_last, hw.bias, mul_one]
  unfold convAt
  congr 1
  rw [sum_mul 3 72]
  refine Finset.sum_congr rfl fun kw _ => ?_
  rw [sum_mul 3 24]
  refine Finset.sum_congr rfl fun i _ => ?_
  refine Eq.trans ?_ ((sum_band d (fun kh => W o i kh kw) fun r => bordered x i (8 * n + 8 + r - 15) (126 + kw.1 + l.1 - 127)).trans ?_)
  · refine Finset.sum_congr rfl fun r _ => ?_
    exact congr (congrArg HMul.hMul (hw.band d o kw i r)) ((patch_at X kw i r l).trans (hX i r _))
  · refine Finset.sum_congr rfl fun kh _ => ?_
    rw [show 8 * n + 8 + (d.1 + 7 + kh.1) - 15 = 8 * n + d.1 + kh.1 by omega, show 126 + kw.1 + l.1 - 127 = l.1 - 1 + kw.1 by omega]

/-- The mask's word at a lane, decided by the lane's number. -/
theorem mask_lane : ∀ l : Fin 256,
    IntOp.andi (IntOp.cmpi CmpIPredicate.sge (BitVec.ofNat 32 l.1) 1#32) (IntOp.cmpi CmpIPredicate.slt (BitVec.ofNat 32 l.1) 225#32)
      = if 1 ≤ l.1 ∧ l.1 < 225 then 1#1 else 0#1 := by
  decide +kernel

/-- A running sum at a lane: its seven chunks added. -/
theorem acc_apply (X : Fin 28 → Vec Ideal S1x3x24x384 .bf16) (w : Vec Ideal S512x217 .bf16) (j : Fin 4) (o : Fin 64) (l : Fin 256) :
    acc (F := Ideal) X w j (ix2 o l) = ∑ m : Fin 7, chunk (F := Ideal) (X ⟨j.1 + 4 * m.1, by omega⟩) w (ix2 o l) := by
  simp only [Fin.sum_univ_castSucc, Fin.sum_univ_zero]
  pointwise [acc]
  rfl

/-- The four running sums together: all twenty-eight chunks. -/
theorem acc_sum (f : Fin 28 → EReal) :
    ((∑ m : Fin 7, f ⟨0 + 4 * m.1, by omega⟩) + ∑ m : Fin 7, f ⟨1 + 4 * m.1, by omega⟩)
      + ((∑ m : Fin 7, f ⟨2 + 4 * m.1, by omega⟩) + ∑ m : Fin 7, f ⟨3 + 4 * m.1, by omega⟩) = ∑ n, f n := by
  rw [sum_mul 7 4, ← Finset.sum_add_distrib, ← Finset.sum_add_distrib, ← Finset.sum_add_distrib]
  refine Finset.sum_congr rfl fun m _ => ?_
  rw [Fin.sum_univ_four, add_assoc, add_assoc, add_assoc]
  have e : ∀ (a b : ℕ) (ha : a < 28) (hb : b < 28), a = b → f ⟨a, ha⟩ = f ⟨b, hb⟩ := by
    intro a b ha hb h
    subst h
    rfl
  refine congr (congrArg HAdd.hAdd (e _ _ _ _ (by simp; omega))) (congr (congrArg HAdd.hAdd (e _ _ _ _ (by simp; omega)))
    (congr (congrArg HAdd.hAdd (e _ _ _ _ (by simp; omega))) (e _ _ _ _ (by simp; omega))))

/-- One image's column before the chunks are opened. -/
theorem image_apply (X : Fin 28 → Vec Ideal S1x3x24x384 .bf16) (w : Vec Ideal S512x217 .bf16) (o : Fin 64) :
    image (F := Ideal) X w (ix3 0 o 0)
      = (∑ l : Fin 256, Scalar.select
          (IntOp.andi (IntOp.cmpi CmpIPredicate.sge (BitVec.ofNat 32 l.1) 1#32) (IntOp.cmpi CmpIPredicate.slt (BitVec.ofNat 32 l.1) 225#32))
          (acc (F := Ideal) X w 0 (ix2 o l) + acc (F := Ideal) X w 1 (ix2 o l)
            + (acc (F := Ideal) X w 2 (ix2 o l) + acc (F := Ideal) X w 3 (ix2 o l))) 0)
        * Named.named κ "inv_hw" (φ := .f32) 0x37A72F05#32 := by
  pointwise [image, total]

/-- One image's column: the clamped convolution summed over the plane, times the reciprocal of the plane's size. -/
theorem image_at {w : Vec Ideal S512x217 .bf16} {W b} (hw : Weights w W b) (x : Fin 3 → Fin 224 → Fin 224 → EReal)
    (X : Fin 28 → Vec Ideal S1x3x24x384 .bf16)
    (hX : ∀ n i r q, X n (ix4 0 i r q) = bordered x i (8 * n.1 + 8 + r.1 - 15) (q.1 - 127)) (o : Fin 64) :
    image (F := Ideal) X w (ix3 0 o 0) = poolSum x (W o) (b o) * ((50176⁻¹ : ℝ) : EReal) := by
  rw [image_apply, IdealRules.named_const.ideal_named_scalar _ _ _ _ rfl]
  congr 1
  unfold poolSum
  rw [Finset.sum_comm]
  refine Eq.trans ?_ (sum_lanes fun z => ∑ y : Fin 224, max (convAt x (W o) (b o) y.1 z) 0)
  refine Finset.sum_congr rfl fun l _ => ?_
  rw [mask_lane]
  by_cases h : 1 ≤ l.1 ∧ l.1 < 225
  · rw [if_pos h, if_pos h, acc_apply, acc_apply, acc_apply, acc_apply]
    refine Eq.trans (acc_sum fun n => chunk (F := Ideal) (X n) w (ix2 o l)) ?_
    rw [← sum_rows fun y => max (convAt x (W o) (b o) y (l.1 - 1)) 0]
    exact Finset.sum_congr rfl fun n _ => chunk_at hw x n.1 (X n) (hX n) o l h.1
  · rw [if_neg h, if_neg h]
    rfl

end Cert.KernelIdeal.Conv

end
-- ==== Proof.ConvPoint.lean ====
/- The scratch between the grid points, and the output block of every point: whatever block of images the point is
   given, the scratch holds them with a border of zeros, and the two columns stored are those images' pooled columns. -/
module

public import proofs.«01_k».proof.Proof.ConvValue

@[expose] public section

set_option maxRecDepth 16384

noncomputable section

namespace Cert.KernelIdeal.Conv

open Cert.KernelIdeal Cert.KernelIdeal.Gen Cert.KernelIdeal.Full Cert.Math
open Idealize.ShloMosaic Idealize.ShloMosaic.TcCoe Idealize.ShloMosaic.Tactic

/-- Image `s` of a block of two. -/
def imageOf (x0 : Vec Ideal S2x3x224x224 .f32) (s : Fin 2) (i : Fin 3) (y z : Fin 224) : EReal := x0 (ix4 s i y z)

/-- The scratch's border: the rows and columns the two stores of the block leave alone. -/
def border (R : Fin 248) (Q : Fin 384) : Prop := ¬((16 ≤ R.1 ∧ R.1 < 240) ∧ 128 ≤ Q.1 ∧ Q.1 < 352)

instance (R : Fin 248) (Q : Fin 384) : Decidable (border R Q) := by
  unfold border
  infer_instance

/-- A block of images stored over contents whose border is zero: at each entry the bordered image. -/
theorem read_inner (v : View sig .tc .vmem S2x3x248x384 .bf16) (f : v.ty.Contents (Elt Ideal)) (L : List (View.Piece (Elt Ideal) S2x3x248x384 .bf16))
    (x0 : Vec Ideal S2x3x224x224 .f32) (s : Fin 2) (i : Fin 3) (R : Fin 248) (Q : Fin 384)
    (hf : border R Q → v.read (Elt Ideal) (v.writes (Elt Ideal) f L) (ix4 s i R Q) = (0 : EReal)) :
    v.read (Elt Ideal) (v.writes (Elt Ideal) f (inner x0 ++ L)) (ix4 s i R Q) = bordered (imageOf x0 s) i (R.1 - 15) (Q.1 - 127) := by
  have hi := i.2
  have step : ∀ (u : ℕ) (y : Vec Ideal S1x3x224x224 .bf16) (inb) (M : List (View.Piece (Elt Ideal) S2x3x248x384 .bf16)),
      v.read (Elt Ideal) (v.writes (Elt Ideal) f (⟨Rect.unit ![u, 0, 16, 128] S1x3x224x224.size inb, y⟩ :: M)) (ix4 s i R Q)
        = if h : s.1 = u ∧ ¬border R Q then
            y (ix4 0 i ⟨R.1 - 16, by unfold border at h; omega⟩ ⟨Q.1 - 128, by unfold border at h; omega⟩)
          else v.read (Elt Ideal) (v.writes (Elt Ideal) f M) (ix4 s i R Q) := by
    intro u y inb M
    by_cases h : s.1 = u ∧ ¬border R Q
    · rw [dif_pos h]
      unfold border at h
      refine View.read_writes_cons_unit_of_mem v f inb y M _ (ix4 0 i ⟨R.1 - 16, by omega⟩ ⟨Q.1 - 128, by omega⟩) rfl fun a => ?_
      match a with
      | ⟨0, _⟩ => show s.1 = u + 0; omega
      | ⟨1, _⟩ => show i.1 = 0 + i.1; omega
      | ⟨2, _⟩ => show R.1 = 16 + (R.1 - 16); omega
      | ⟨3, _⟩ => show Q.1 = 128 + (Q.1 - 128); omega
    · rw [dif_neg h]
      unfold border at h
      by_cases hs : s.1 = u
      · by_cases hR : 16 ≤ R.1 ∧ R.1 < 240
        · exact View.read_writes_cons_unit_of_not_mem v f inb y M _ rfl ⟨3, by decide⟩
            (by show Q.1 < 128 ∨ 128 + 224 ≤ Q.1; omega)
        · exact View.read_writes_cons_unit_of_not_mem v f inb y M _ rfl ⟨2, by decide⟩
            (by show R.1 < 16 ∨ 16 + 224 ≤ R.1; omega)
      · exact View.read_writes_cons_unit_of_not_mem v f inb y M _ rfl ⟨0, by decide⟩
          (by show s.1 < u ∨ u + 1 ≤ s.1; omega)
  have st : ∀ (u : Fin 2) (inb) (R' Q' : Fin 224),
      stored (F := Ideal) (View.ld x0 (Rect.unit ![u.1, 0, 0, 0] S1x3x224x224.size inb)) (ix4 0 i R' Q') = imageOf x0 u i R' Q' := by
    intro u inb R' Q'
    pointwise [stored, imageOf]
  show v.read (Elt Ideal) (v.writes (Elt Ideal) f (_ :: _ :: L)) (ix4 s i R Q) = _
  rw [step, step]
  unfold bordered
  by_cases hb : border R Q
  · rw [dif_neg (fun h => h.2 hb), dif_neg (fun h => h.2 hb), hf hb, dif_neg (by unfold border at hb; omega)]
  · have hb' := hb
    unfold border at hb'
    have hs := s.2
    have h01 : s = 1 ∨ s = 0 := by
      rcases (by omega : s.1 = 1 ∨ s.1 = 0) with h | h
      · exact .inl (Fin.ext h)
      · exact .inr (Fin.ext h)
    have same : ∀ (u : Fin 2) (b b' c c' : Fin 224), b.1 = b'.1 → c.1 = c'.1 → imageOf x0 u i b c = imageOf x0 u i b' c' := by
      intro u b b' c c' h2 h3
      rw [Fin.ext h2, Fin.ext h3]
    rcases h01 with rfl | rfl
    · rw [dif_pos ⟨rfl, hb⟩, dif_pos (by omega)]
      exact (st 1 _ _ _).trans (same 1 _ _ _ _ (by dsimp only; omega) (by dsimp only; omega))
    · rw [dif_neg (fun h => absurd h.1 (by decide)), dif_pos ⟨rfl, hb⟩, dif_pos (by omega)]
      exact (st 0 _ _ _).trans (same 0 _ _ _ _ (by dsimp only; omega) (by dsimp only; omega))

/-- Contents cleared by the store of zeros read zero. -/
theorem read_clear (v : View sig .tc .vmem S2x3x248x384 .bf16) (f : v.ty.Contents (Elt Ideal)) (s : Fin 2) (i : Fin 3) (R : Fin 248) (Q : Fin 384) :
    v.read (Elt Ideal) (v.writes (Elt Ideal) f [clear]) (ix4 s i R Q) = (0 : EReal) := by
  refine (View.read_writes_cons_unit_of_mem v f inb_S2x3x248x384_S2x3x248x384_0_0_0_0
    (shapeCast S2x3x248x384 (broadcast S2x3x248x384 (Scalar.ofBits (F := Ideal) .bf16 0x0000#16)) shapeCasts_S2x3x248x384_S2x3x248x384) []
    (ix4 s i R Q) (ix4 s i R Q) rfl fun a => ?_).trans ?_
  · match a with
    | ⟨0, _⟩ => show s.1 = 0 + s.1; omega
    | ⟨1, _⟩ => show i.1 = 0 + i.1; omega
    | ⟨2, _⟩ => show R.1 = 0 + R.1; omega
    | ⟨3, _⟩ => show Q.1 = 0 + Q.1; omega
  · pointwise

/-- The two stores of the output block, read back: column `s` is image `s`'s. -/
theorem read_outer (v : View sig .tc .vmem S2x64x1 .f32) (f : v.ty.Contents (Elt Ideal)) (X : Fin 2 → Fin 28 → Vec Ideal S1x3x24x384 .bf16)
    (w : Vec Ideal S512x217 .bf16) (s : Fin 2) (o : Fin 64) :
    v.read (Elt Ideal) (v.writes (Elt Ideal) f (outer X w)) (ix3 s o 0) = image (F := Ideal) (X s) w (ix3 0 o 0) := by
  have h01 : s = 1 ∨ s = 0 := by
    have hs := s.2
    rcases (by omega : s.1 = 1 ∨ s.1 = 0) with h | h
    · exact .inl (Fin.ext h)
    · exact .inr (Fin.ext h)
  rcases h01 with rfl | rfl
  · refine View.read_writes_cons_unit_of_mem v f inb_S2x64x1_S1x64x1_1_0_0 (image (X 1) w) _ _ (ix3 0 o 0) rfl fun a => ?_
    match a with
    | ⟨0, _⟩ => rfl
    | ⟨1, _⟩ => show o.1 = 0 + o.1; omega
    | ⟨2, _⟩ => rfl
  · refine (View.read_writes_cons_unit_of_not_mem v f inb_S2x64x1_S1x64x1_1_0_0 (image (X 1) w) _ _ rfl ⟨0, by decide⟩
      (.inl (by show 0 < 1; decide))).trans ?_
    refine View.read_writes_cons_unit_of_mem v f inb_S2x64x1_S1x64x1_0_0_0 (image (X 0) w) _ _ (ix3 0 o 0) rfl fun a => ?_
    match a with
    | ⟨0, _⟩ => rfl
    | ⟨1, _⟩ => show o.1 = 0 + o.1; omega
    | ⟨2, _⟩ => rfl

/-- The whole weight block, loaded. -/
theorem ld_weights (w : Vec Ideal S512x217 .bf16) :
    View.ld w (Rect.unit ![0, 0] S512x217.size inb_S512x217_S512x217_0_0) = w := by
  funext j
  obtain ⟨a, b, rfl⟩ : ∃ (a : Fin 512) (b : Fin 217), j = ix2 a b := ⟨j 0, j 1, eq_ix2 j⟩
  pointwise

/-- Chunk windows of bordered images. -/
theorem windowOf_at (y : Vec Ideal S2x3x248x384 .bf16) (x0 : Vec Ideal S2x3x224x224 .f32)
    (hy : ∀ s i R Q, y (ix4 s i R Q) = bordered (imageOf x0 s) i (R.1 - 15) (Q.1 - 127)) (s : Fin 2) (n : Fin 28) (i : Fin 3) (r : Fin 24) (q : Fin 384) :
    windowOf (F := Ideal) y s n (ix4 0 i r q) = bordered (imageOf x0 s) i (8 * n.1 + 8 + r.1 - 15) (q.1 - 127) := by
  have h : windowOf (F := Ideal) y s n (ix4 0 i r q) = y (ix4 s i ⟨8 * n.1 + 8 + r.1, by omega⟩ q) := by
    pointwise [windowOf]
  rw [h, hy]

/-- The output block at the first point. -/
theorem out_A (c : Dev nD) (i : grid0.Coords) (arg1 : Memref sig .tc .vmem S2x3x224x224 .f32) (harg1 : arg1.IsWhole) (arg2 : Memref sig .tc .vmem S512x217 .bf16) (harg2 : arg2.IsWhole) (arg3 : Memref sig .tc .vmem S2x64x1 .f32) (harg3 : arg3.IsWhole) (arg4 : Memref sig .tc .vmem S2x3x248x384 .bf16) (harg4 : arg4.IsWhole) (hc0 : cond0_0 i) (x0 : Vec Ideal S2x3x224x224 .f32) (x1 : Vec Ideal S512x217 .bf16)
    {W b} (hw : Weights x1 W b) (s : Fin 2) (o : Fin 64) :
    out0_A_2 (F := Ideal) c i arg1 harg1 arg2 harg2 arg3 harg3 arg4 harg4 hc0 x0 x1 (ix3 s o 0) = poolSum (imageOf x0 s) (W o) (b o) * ((50176⁻¹ : ℝ) : EReal) := by
  unfold out0_A_2
  rw [output_A, read_outer, harg2.read_unread, ld_weights, scratch_A]
  refine image_at hw _ _ (fun n i' r q => windowOf_at _ x0 (fun s i R Q => ?_) s n i' r q) o
  exact read_inner _ _ _ x0 s i R Q fun _ => read_clear _ _ s i R Q

/-- The output block at a later point, over a scratch whose border is zero. -/
theorem out_B (c : Dev nD) (i : grid0.Coords) (arg1 : Memref sig .tc .vmem S2x3x224x224 .f32) (harg1 : arg1.IsWhole) (arg2 : Memref sig .tc .vmem S512x217 .bf16) (harg2 : arg2.IsWhole) (arg3 : Memref sig .tc .vmem S2x64x1 .f32) (harg3 : arg3.IsWhole) (arg4 : Memref sig .tc .vmem S2x3x248x384 .bf16) (harg4 : arg4.IsWhole) (hc0 : ¬cond0_0 i) (x0 : Vec Ideal S2x3x224x224 .f32) (x1 : Vec Ideal S512x217 .bf16) (xs0 : Vec Ideal S2x3x248x384 .bf16)
    (hxs : ∀ s i R Q, border R Q → xs0 (ix4 s i R Q) = (0 : EReal)) {W b} (hw : Weights x1 W b) (s : Fin 2) (o : Fin 64) :
    out0_B_2 (F := Ideal) c i arg1 harg1 arg2 harg2 arg3 harg3 arg4 harg4 hc0 x0 x1 xs0 (ix3 s o 0) = poolSum (imageOf x0 s) (W o) (b o) * ((50176⁻¹ : ℝ) : EReal) := by
  unfold out0_B_2
  rw [output_B, read_outer, harg2.read_unread, ld_weights, scratch_B]
  refine image_at hw _ _ (fun n i' r q => windowOf_at _ x0 (fun s i R Q => ?_) s n i' r q) o
  refine (congrArg (fun L => arg4.view.read (Elt Ideal) (arg4.view.writes (Elt Ideal) (harg4.unread xs0) L) (ix4 s i R Q)) (List.append_nil (inner x0)).symm).trans ?_
  refine read_inner _ _ [] x0 s i R Q fun hb => ?_
  exact (congrFun (harg4.read_unread xs0) _).trans (hxs s i R Q hb)

/-- The scratch after the first point has a zero border. -/
theorem sout_A (c : Dev nD) (i : grid0.Coords) (arg1 : Memref sig .tc .vmem S2x3x224x224 .f32) (harg1 : arg1.IsWhole) (arg2 : Memref sig .tc .vmem S512x217 .bf16) (harg2 : arg2.IsWhole) (arg3 : Memref sig .tc .vmem S2x64x1 .f32) (harg3 : arg3.IsWhole) (arg4 : Memref sig .tc .vmem S2x3x248x384 .bf16) (harg4 : arg4.IsWhole) (hc0 : cond0_0 i) (x0 : Vec Ideal S2x3x224x224 .f32) (x1 : Vec Ideal S512x217 .bf16)
    (s : Fin 2) (i' : Fin 3) (R : Fin 248) (Q : Fin 384) (hb : border R Q) :
    sout0_A_0 (F := Ideal) c i arg1 harg1 arg2 harg2 arg3 harg3 arg4 harg4 hc0 x0 x1 (ix4 s i' R Q) = (0 : EReal) := by
  unfold sout0_A_0
  rw [scratch_A]
  refine (read_inner _ _ _ x0 s i' R Q fun _ => read_clear _ _ s i' R Q).trans ?_
  unfold bordered border at *
  rw [dif_neg (by omega)]

/-- The scratch after a later point has a zero border if it had one before. -/
theorem sout_B (c : Dev nD) (i : grid0.Coords) (arg1 : Memref sig .tc .vmem S2x3x224x224 .f32) (harg1 : arg1.IsWhole) (arg2 : Memref sig .tc .vmem S512x217 .bf16) (harg2 : arg2.IsWhole) (arg3 : Memref sig .tc .vmem S2x64x1 .f32) (harg3 : arg3.IsWhole) (arg4 : Memref sig .tc .vmem S2x3x248x384 .bf16) (harg4 : arg4.IsWhole) (hc0 : ¬cond0_0 i) (x0 : Vec Ideal S2x3x224x224 .f32) (x1 : Vec Ideal S512x217 .bf16) (xs0 : Vec Ideal S2x3x248x384 .bf16)
    (hxs : ∀ s i R Q, border R Q → xs0 (ix4 s i R Q) = (0 : EReal)) (s : Fin 2) (i' : Fin 3) (R : Fin 248) (Q : Fin 384) (hb : border R Q) :
    sout0_B_0 (F := Ideal) c i arg1 harg1 arg2 harg2 arg3 harg3 arg4 harg4 hc0 x0 x1 xs0 (ix4 s i' R Q) = (0 : EReal) := by
  unfold sout0_B_0
  rw [scratch_B]
  refine (congrArg (fun L => arg4.view.read (Elt Ideal) (arg4.view.writes (Elt Ideal) (harg4.unread xs0) L) (ix4 s i' R Q)) (List.append_nil (inner x0)).symm).trans ?_
  refine (read_inner _ _ [] x0 s i' R Q fun hb => (congrFun (harg4.read_unread xs0) _).trans (hxs s i' R Q hb)).trans ?_
  unfold bordered border at *
  rw [dif_neg (by omega)]

variable (V : (c : Dev nD) → (b : Ref sig .tc) → Buf (Elt Ideal) ((c : Thread nD τ).loc b))

/-- The first component of a pair given by an equation. -/
theorem fst_of {α β : Type} {p : α × β} {a : α} {b : β} (h : p = (a, b)) : p.1 = a := by
  subst h
  rfl

/-- The second component of a pair given by an equation. -/
theorem snd_of {α β : Type} {p : α × β} {a : α} {b : β} (h : p = (a, b)) : p.2 = b := by
  subst h
  rfl

/-- Contents of the scratch whose border is zero. -/
def Bordered (y : Vec Ideal S2x3x248x384 .bf16) : Prop :=
  ∀ (s : Fin 2) (i : Fin 3) (R : Fin 248) (Q : Fin 384), border R Q → y (ix4 s i R Q) = (0 : EReal)

/-- After the first point the scratch's border is zero. -/
theorem border_first (c : Dev nD) (t : Fin cfg0.N) (h0 : t.val % 32 = 0) : Bordered (outsAt0 V c t.val t.isLt).2 :=
  Eq.mpr (congrArg Bordered (snd_of (outsAt0_A V c t h0)))
    (sout_A c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t))

/-- After a later point it is zero if it was before. -/
theorem border_later (c : Dev nD) (t : Fin cfg0.N) (h0 : ¬t.val % 32 = 0)
    (ih : Bordered (outsAt0 V c (t.val - 1) (Nat.lt_of_le_of_lt (Nat.sub_le _ _) t.isLt)).2) : Bordered (outsAt0 V c t.val t.isLt).2 :=
  Eq.mpr (congrArg Bordered (snd_of (outsAt0_B V c t h0)))
    (sout_B c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t)
      (outsAt0 V c (t.val - 1) (Nat.lt_of_le_of_lt (Nat.sub_le _ _) t.isLt)).2 ih)

/-- After every point the scratch's border is zero. -/
theorem scratch_border (c : Dev nD) (k : ℕ) : ∀ t : Fin cfg0.N, t.val = k → Bordered (outsAt0 V c t.val t.isLt).2 := by
  have h32 : cfg0.N = 32 := rfl
  induction k with
  | zero => exact fun t ht => border_first V c t (by rw [ht])
  | succ k ih =>
    exact fun t ht => border_later V c t (by omega) (ih ⟨t.val - 1, Nat.lt_of_le_of_lt (Nat.sub_le _ _) t.isLt⟩ (by dsimp only; omega))

/-- The output block after every point. -/
theorem outs_at (c : Dev nD) (t : Fin cfg0.N) {W b} (hw : Weights (iblk0 V c 1 t) W b) (s : Fin 2) (o : Fin 64) :
    (outsAt0 V c t.val t.isLt).1 (ix3 s o 0) = poolSum (imageOf (iblk0 V c 0 t) s) (W o) (b o) * ((50176⁻¹ : ℝ) : EReal) := by
  by_cases h0 : t.val % 32 = 0
  · exact (congrFun (fst_of (outsAt0_A V c t h0)) (ix3 s o 0)).trans
      (out_A c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t) hw s o)
  · exact (congrFun (fst_of (outsAt0_B V c t h0)) (ix3 s o 0)).trans
      (out_B c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t)
        (outsAt0 V c (t.val - 1) (Nat.lt_of_le_of_lt (Nat.sub_le _ _) t.isLt)).2 (scratch_border V c (t.val - 1) ⟨t.val - 1, Nat.lt_of_le_of_lt (Nat.sub_le _ _) t.isLt⟩ rfl) hw s o)

end Cert.KernelIdeal.Conv

end
-- ==== Proof.ConvArray.lean ====
/- The array the convolution's call leaves: at image `n` and channel `o` the pooled column of that image. -/
module

public import proofs.«01_k».proof.Proof.ConvPoint

@[expose] public section

set_option maxRecDepth 16384

noncomputable section

namespace Cert.KernelIdeal.Conv

open Cert.KernelIdeal Cert.KernelIdeal.Gen Cert.KernelIdeal.Full Cert.Math
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b))

/-- Which blocks the windows show at a point: the images' and the output's block is the point's own, the weights' the whole. -/
theorem index_facts : ∀ t : Fin cfg0.N,
    (win0_0.index t (0 : Fin 4) = t.val ∧ win0_0.index t (1 : Fin 4) = 0 ∧ win0_0.index t (2 : Fin 4) = 0 ∧ win0_0.index t (3 : Fin 4) = 0)
      ∧ (win0_1.index t (0 : Fin 2) = 0 ∧ win0_1.index t (1 : Fin 2) = 0)
      ∧ win0_2.index t (0 : Fin 3) = t.val ∧ win0_2.index t (1 : Fin 3) = 0 ∧ win0_2.index t (2 : Fin 3) = 0 :=
  (by decide +kernel : ∀ t : Fin grid0.N, _)

/-- Point `t`'s block of images: images `2 t` and `2 t + 1` of the array. -/
theorem block_images (c : Dev nD) (x : Vec Ideal S64x3x224x224 .f32) (hx : V c main_arg0 = x) (t : Fin cfg0.N) (s : Fin 2) (i : Fin 3) (y z : Fin 224)
    (n : Fin 64) (hn : n.1 = 2 * t.val + s.1) :
    imageOf (iblk0 V c 0 t) s i y z = x (ix4 n i y z) := by
  obtain ⟨⟨e0, e1, e2, e3⟩, -, -⟩ := index_facts t
  subst hx
  show V c main_arg0 (((cfg0.win 0).blk t).view.emb (ix4 s i y z)) = V c main_arg0 (ix4 n i y z)
  refine congrArg (V c main_arg0) (funext fun a => Fin.ext ?_)
  match a with
  | ⟨0, _⟩ => show win0_0.index t (0 : Fin 4) * 2 + 1 * s.1 = n.1; omega
  | ⟨1, _⟩ => show win0_0.index t (1 : Fin 4) * 3 + 1 * i.1 = i.1; omega
  | ⟨2, _⟩ => show win0_0.index t (2 : Fin 4) * 224 + 1 * y.1 = y.1; omega
  | ⟨3, _⟩ => show win0_0.index t (3 : Fin 4) * 224 + 1 * z.1 = z.1; omega

/-- Every point's block of weights is the whole matrix. -/
theorem block_weights (c : Dev nD) (w : Vec Ideal S512x217 .bf16) (hw : V c main_v8 = w) (t : Fin cfg0.N) :
    (iblk0 V c 1 t : Vec Ideal S512x217 .bf16) = w := by
  obtain ⟨-, ⟨e0, e1⟩, -⟩ := index_facts t
  subst hw
  funext j
  show V c main_v8 (((cfg0.win 1).blk t).view.emb j) = V c main_v8 j
  refine congrArg (V c main_v8) (funext fun a => Fin.ext ?_)
  match a with
  | ⟨0, _⟩ => show win0_1.index t (0 : Fin 2) * 512 + 1 * (j 0).val = (j 0).val; omega
  | ⟨1, _⟩ => show win0_1.index t (1 : Fin 2) * 217 + 1 * (j 1).val = (j 1).val; omega

/-- The pooled columns of all the images. -/
def pooled (x : Vec Ideal S64x3x224x224 .f32) (W : Fin 64 → Fin 3 → Fin 3 → Fin 3 → EReal) (b : Fin 64 → EReal) : Vec Ideal S64x64x1 .f32 :=
  fun j => poolSum (fun i y z => x (ix4 (j 0) i y z)) (W (j 1)) (b (j 1)) * ((50176⁻¹ : ℝ) : EReal)

/-- An entry of the array lies in point `t`'s output block when its image is one of the point's two. -/
theorem mem_block (t : Fin cfg0.N) (i : S64x64x1.Idx) :
    i ∈ ((cfg0.win 2).blk t).view.set ↔ ∀ a : Fin 3, win0_2.index t a * S2x64x1.size a ≤ (i a).val ∧ (i a).val < win0_2.index t a * S2x64x1.size a + S2x64x1.size a := by
  show i ∈ ((View.whole main_v9).slice (win0_2.rect t)).set ↔ _
  rw [View.set_slice_whole, Rect.mem_set_unit]
  exact Iff.rfl

/-- An entry of what point `t` leaves, at its place in the array. -/
theorem block_value (c : Dev nD) (x : Vec Ideal S64x3x224x224 .f32) (hx : V c main_arg0 = x) (w : Vec Ideal S512x217 .bf16) (hw : V c main_v8 = w) {W b}
    (hW : Weights w W b) (t : Fin cfg0.N) (n : Fin 64) (s : Fin 2) (o : Fin 64) (hn : n.1 = 2 * t.val + s.1) :
    (outsAt0 V c t.val t.isLt).1 (ix3 s o 0) = pooled x W b (ix3 n o 0) := by
  rw [outs_at V c t (W := W) (b := b) (by rw [block_weights V c w hw t]; exact hW) s o]
  have h : imageOf (iblk0 V c 0 t) s = fun i y z => x (ix4 n i y z) := by
    funext i y z
    exact block_images V c x hx t s i y z n hn
  rw [h]
  rfl

/-- What a point writes back is its block of the pooled array. -/
theorem flushed_eq (c : Dev nD) (x : Vec Ideal S64x3x224x224 .f32) (hx : V c main_arg0 = x) (w : Vec Ideal S512x217 .bf16) (hw : V c main_v8 = w) {W b}
    (hW : Weights w W b) (t : Fin cfg0.N) :
    (dat0 V c).flushed 2 t = ((cfg0.win 2).blk t).view.read (Elt Ideal) (pooled x W b) := by
  show (cfg0.win 2).cut (grid0.coords t) ((dat0 V c).after 2 t) = _
  rw [after0_2]
  have hv := block_value V c x hx w hw hW t
  obtain ⟨-, -, e0, e1, e2⟩ := index_facts t
  generalize (outsAt0 V c t.val t.isLt).1 = O at hv
  have h32 : t.val < 32 := t.isLt
  funext j
  have hy0 : (j 0).val < 2 := (j 0).isLt
  have hy1 : (j 1).val < 64 := (j 1).isLt
  have hy2 : (j 2).val < 1 := (j 2).isLt
  have hl : (cfg0.win 2).xinj (grid0.coords t) j = (ix3 ⟨(j 0).val, hy0⟩ ⟨(j 1).val, hy1⟩ 0 : S2x64x1.Idx) := by
    funext a; apply Fin.ext
    match a with
    | ⟨0, _⟩ => rfl
    | ⟨1, _⟩ => rfl
    | ⟨2, _⟩ => show (j 2).val = 0; omega
  have hr : ((cfg0.win 2).blk t).view.emb j = (ix3 ⟨2 * t.val + (j 0).val, by omega⟩ ⟨(j 1).val, hy1⟩ 0 : S64x64x1.Idx) := by
    funext a; apply Fin.ext
    match a with
    | ⟨0, _⟩ => show win0_2.index t (0 : Fin 3) * 2 + 1 * (j 0).val = 2 * t.val + (j 0).val; omega
    | ⟨1, _⟩ => show win0_2.index t (1 : Fin 3) * 64 + 1 * (j 1).val = (j 1).val; omega
    | ⟨2, _⟩ => show win0_2.index t (2 : Fin 3) * 1 + 1 * (j 2).val = 0; omega
  show O ((cfg0.win 2).xinj (grid0.coords t) j) = pooled x W b (((cfg0.win 2).blk t).view.emb j)
  rw [hl, hr]
  exact hv _ _ _ rfl

/-- The array after the call: the pooled columns. -/
theorem array_eq (c : Dev nD) (x : Vec Ideal S64x3x224x224 .f32) (hx : V c main_arg0 = x) (w : Vec Ideal S512x217 .bf16) (hw : V c main_v8 = w) {W b}
    (hW : Weights w W b) : (dat0 V c).arrAt 2 cfg0.N = pooled x W b :=
  (dat0 V c).arrAt_eq_of_cover 2 _ (fun t _ => flushed_eq V c x hx w hw hW t) fun i => by
    have h0 : (i 0).val < 64 := (i 0).isLt
    have h1 : (i 1).val < 64 := (i 1).isLt
    have h2 : (i 2).val < 1 := (i 2).isLt
    have h32 : cfg0.N = 32 := rfl
    refine ⟨⟨(i 0).val / 2, by omega⟩, flush0_2 _, ?_⟩
    obtain ⟨-, -, e0, e1, e2⟩ := index_facts ⟨(i 0).val / 2, by omega⟩
    dsimp only at e0
    rw [mem_block]
    intro a
    match a with
    | ⟨0, _⟩ => show win0_2.index _ (0 : Fin 3) * 2 ≤ (i 0).val ∧ (i 0).val < win0_2.index _ (0 : Fin 3) * 2 + 2; omega
    | ⟨1, _⟩ => show win0_2.index _ (1 : Fin 3) * 64 ≤ (i 1).val ∧ (i 1).val < win0_2.index _ (1 : Fin 3) * 64 + 64; omega
    | ⟨2, _⟩ => show win0_2.index _ (2 : Fin 3) * 1 ≤ (i 2).val ∧ (i 2).val < win0_2.index _ (2 : Fin 3) * 1 + 1; omega

end Cert.KernelIdeal.Conv

end
-- ==== Proof.HostWeights.lean ====
/- The matrix of weights the program hands to the convolution's call, entry by entry. -/
module

public import proofs.«01_k».proof.Proof.KernelIdealRun
public import proofs.«01_k».proof.Proof.ConvValue
public import Idealize.ShloMosaic.Lib.StableHlo.RunRead

@[expose] public section

set_option maxRecDepth 16384

noncomputable section

namespace Cert.KernelIdeal.Conv

open Cert.KernelIdeal Cert.KernelIdeal.Gen Cert.KernelIdeal.Full Cert.Math
open Idealize.ShloMosaic Idealize.ShloMosaic.TcCoe Idealize.ShloMosaic.Tactic

variable {F : FTy → Type} [FloatOps F] [Named F]

/-- The table of row shifts: one exactly where row `r` of the window is row `d + 7 + kh`. -/
def shift : Vec F S8x24x3 .f32 := fun i => FloatOps.ofBits .f32 (lit0 (S8x24x3.rowMajor i))

/-- The weights with the three rows of the kernel laid along the window's rows, and the bias as a last column. -/
def weights (x : Vec F S64x3x3x3 .f32) (y : Vec F S64 .f32) : Vec F S512x217 .bf16 :=
  truncf .bf16 (concatenate S512x217 1 [⟨S512x216, shapeCast S512x216 (transpose S8x64x3x3x24 [0, 2, 4, 3, 1]
      (Host.dotGeneral dot_S8x24x3_S64x3x3x3_S8x24x64x3x3_2_2_01_013_n_n none (shift (F := F)) x) transposes_S8x24x64x3x3_S8x64x3x3x24_0_2_4_3_1) shapeCasts_S8x64x3x3x24_S512x216⟩,
    ⟨S512x1, shapeCast S512x1 (shapeCast S512 (broadcastInDim S8x64 ![0, 1] bcast_S1x64_S8x64_0_1 (shapeCast S1x64 y shapeCasts_S64_S1x64)) shapeCasts_S8x64_S512) shapeCasts_S512_S512x1⟩]
    concatenates_S512x216_S512x1_S512x217_d1) bitsLt_bf16_f32

/-- What the first stretch of the program leaves in the operand of the convolution's call. -/
theorem after_weights (V : Valuation τ sig (Elt F)) :
    StableHlo.after hostOps0 V (Proc.devRef .tc main_v8) = weights (V (Proc.devRef .tc main_arg1)) (V (Proc.devRef .tc main_arg2)) := by
  after_reads_simp
  rfl

/-- The entries of the table of row shifts. -/
theorem shift_word : ∀ (d : Fin 8) (r : Fin 24) (kh : Fin 3),
    lit0 (S8x24x3.rowMajor (ix3 d r kh)) = if r.1 = d.1 + 7 + kh.1 then 0x3F800000#32 else 0x00000000#32 := by
  decide +kernel

/-- The entries of the table of row shifts, as numbers. -/
theorem shift_at (d : Fin 8) (r : Fin 24) (kh : Fin 3) :
    shift (F := Ideal) (ix3 d r kh) = if r.1 = d.1 + 7 + kh.1 then 1 else 0 := by
  show Ideal.ofBits .f32 (lit0 (S8x24x3.rowMajor (ix3 d r kh))) = _
  rw [shift_word]
  split
  · simp [Ideal.ofBits, Ideal.ieee, -EReal.coe_mul]; norm_num
  · simp [Ideal.ofBits, Ideal.ieee]

/-- The weights laid along the window's rows, without the bias. -/
def laid (x : Vec F S64x3x3x3 .f32) : Vec F S512x216 .f32 :=
  shapeCast S512x216 (transpose S8x64x3x3x24 [0, 2, 4, 3, 1]
      (Host.dotGeneral dot_S8x24x3_S64x3x3x3_S8x24x64x3x3_2_2_01_013_n_n none (shift (F := F)) x) transposes_S8x24x64x3x3_S8x64x3x3x24_0_2_4_3_1) shapeCasts_S8x64x3x3x24_S512x216

/-- The bias once for each of the eight output rows. -/
def biases (y : Vec F S64 .f32) : Vec F S512x1 .f32 :=
  shapeCast S512x1 (shapeCast S512 (broadcastInDim S8x64 ![0, 1] bcast_S1x64_S8x64_0_1 (shapeCast S1x64 y shapeCasts_S64_S1x64)) shapeCasts_S8x64_S512) shapeCasts_S512_S512x1

/-- Two blocks of columns side by side, read in the first. -/
theorem joined_left (a : Vec Ideal S512x216 .f32) (b : Vec Ideal S512x1 .f32) (r : Fin 512) (k : Fin 217) (h : k.1 < 216) :
    concatenate S512x217 1 [⟨S512x216, a⟩, ⟨S512x1, b⟩] concatenates_S512x216_S512x1_S512x217_d1 (ix2 r k) = a (ix2 r ⟨k.1, h⟩) := by
  pointwise
  simp [h]

/-- Two blocks of columns side by side, read in the second. -/
theorem joined_last (a : Vec Ideal S512x216 .f32) (b : Vec Ideal S512x1 .f32) (r : Fin 512) (k : Fin 217) (h : ¬ k.1 < 216) :
    concatenate S512x217 1 [⟨S512x216, a⟩, ⟨S512x1, b⟩] concatenates_S512x216_S512x1_S512x217_d1 (ix2 r k) = b (ix2 r 0) := by
  pointwise
  simp [h]
  exact congrArg b (congrArg (ix2 r) (Fin.ext (by dsimp only; have := k.2; omega)))

/-- Row `d * 64 + o` of the laid weights: the kernel's rows moved down by `d`. -/
theorem laid_at (x : Vec Ideal S64x3x3x3 .f32) (d : Fin 8) (o : Fin 64) (kw i : Fin 3) (r : Fin 24) (p : Fin 512) (q : Fin 216)
    (hp : p.1 = d.1 * 64 + o.1) (hq : q.1 = kw.1 * 72 + (i.1 * 24 + r.1)) :
    laid x (ix2 p q) = ∑ kh : Fin 3, (if r.1 = d.1 + 7 + kh.1 then 1 else 0) * x (ix4 o i kh kw) := by
  pointwise [laid]
  refine Finset.sum_congr rfl fun kh _ => ?_
  have h1 : (⟨p.1 / 64, by omega⟩ : Fin 8) = d := Fin.ext (by dsimp only; omega)
  have h2 : (⟨q.1 % 24, by omega⟩ : Fin 24) = r := Fin.ext (by dsimp only; omega)
  have h3 : (⟨p.1 % 64, by omega⟩ : Fin 64) = o := Fin.ext (by dsimp only; omega)
  have h4 : (⟨q.1 / 24 % 3, by omega⟩ : Fin 3) = i := Fin.ext (by dsimp only; omega)
  have h5 : (⟨q.1 / 72, by omega⟩ : Fin 3) = kw := Fin.ext (by dsimp only; omega)
  rw [h1, h2, h3, h4, h5, shift_at]

/-- The repeated bias. -/
theorem biases_at (y : Vec Ideal S64 .f32) (d : Fin 8) (o : Fin 64) (p : Fin 512)
    (hp : p.1 = d.1 * 64 + o.1) : biases y (ix2 p 0) = y (ix1 o) := by
  pointwise [biases]
  exact congrArg y (congrArg ix1 (Fin.ext (by dsimp only; omega)))

/-- The matrix handed to the call holds the weights and the bias as the convolution's value asks. -/
theorem weights_sound (x : Vec Ideal S64x3x3x3 .f32) (y : Vec Ideal S64 .f32) :
    Weights (weights x y) (fun o i kh kw => x (ix4 o i kh kw)) (fun o => y (ix1 o)) where
  band d o kw i r := by
    refine (joined_left (laid x) (biases y) _ _ (by dsimp only; omega)).trans ?_
    exact laid_at x d o kw i r _ _ rfl rfl
  bias d o := by
    refine (joined_last (laid x) (biases y) _ (Fin.last 216) (by decide)).trans ?_
    exact biases_at y d o _ rfl

end Cert.KernelIdeal.Conv

end
-- ==== Proof.HostGraph.lean ====
/- The operands of the graph head: the pooled nodes laid out node by node, the two averaging matrices of the graph, the
   identity over the images, and their Kronecker products, entry by entry. -/
module

public import proofs.«01_k».proof.Proof.KernelIdealRun
public import Idealize.ShloMosaic.Lib.Pointwise
public import Idealize.ShloMosaic.Lib.StableHlo.RunRead

@[expose] public section

set_option maxRecDepth 16384

noncomputable section

namespace Cert.KernelIdeal.Graph

open Cert.KernelIdeal Cert.KernelIdeal.Gen Cert.KernelIdeal.Full
open Idealize.ShloMosaic Idealize.ShloMosaic.TcCoe Idealize.ShloMosaic.Tactic

variable {F : FTy → Type} [FloatOps F] [Named F]

/-- The pooled array as nodes: row `i * 64 + b` is node `i` of image `b`. -/
def nodes (p : Vec F S64x64x1 .f32) : Vec F S1024x4 .f32 :=
  shapeCast S1024x4 (transpose S16x64x4 [1, 0, 2] (shapeCast S64x16x4 p shapeCasts_S64x64x1_S64x16x4) transposes_S64x16x4_S16x64x4_1_0_2) shapeCasts_S16x64x4_S1024x4

/-- The numbers of the nodes. -/
def numbers : Vec F S16 .i32 := iotaInDim S16 32 0

/-- Each node's number along its row. -/
def across (x : Vec F S16 .i32) : Vec F S16x16 .i32 := broadcastInDim S16x16 ![0, 1] bcast_S1x16_S16x16_0_1 (broadcastInDim S1x16 ![1] bcast_S16_S1x16_1 x)
/-- Each node's number down its column. -/
def down (x : Vec F S16 .i32) : Vec F S16x16 .i32 := broadcastInDim S16x16 ![0, 1] bcast_S16x1_S16x16_0_1 (broadcastInDim S16x1 ![0] bcast_S16_S16x1_0 x)
/-- One over an integer that is at least one. -/
def inverse (x : Vec F S16 .i32) : Vec F S16x1 .f32 :=
  Host.divf (broadcastInDim S16x1 ![] bcast_S_S16x1 (constant S_ .f32 0x3F800000#32))
    (broadcastInDim S16x1 ![0] bcast_S16_S16x1_0 (sitofp .f32 (maxsi x (broadcastInDim S16 ![] bcast_S_S16 (constantI S_ 32 1#32)))))
/-- A weight where the condition holds, zero elsewhere. -/
def where_ (q : Vec F S16x16 .i1) (a : Vec F S16x1 .f32) (z : Vec F S_ .f32) : Vec F S16x16 .f32 :=
  select q (broadcastInDim S16x16 ![0, 1] bcast_S16x1_S16x16_0_1 a) (broadcastInDim S16x16 ![] bcast_S_S16x16 z)
/-- The identity over the images. -/
def eye : Vec F S64x64 .f32 :=
  uitofp .f32 (cmpi .eq (addi (iotaInDim S64x64 32 0) (broadcastInDim S64x64 ![] bcast_S_S64x64 (constantI S_ 32 0#32))) (iotaInDim S64x64 32 1))
/-- The Kronecker product of a matrix over the nodes with one over the images. -/
def kron (a : Vec F S16x16 .f32) (e : Vec F S64x64 .f32) : Vec F S1024x1024 .f32 :=
  shapeCast S1024x1024 (mulf (broadcastInDim S16x64x16x64 ![0, 1, 2, 3] bcast_S16x1x16x1_S16x64x16x64_0_1_2_3 (broadcastInDim S16x1x16x1 ![0, 2] bcast_S16x16_S16x1x16x1_0_2 a))
    (broadcastInDim S16x64x16x64 ![0, 1, 2, 3] bcast_S1x64x1x64_S16x64x16x64_0_1_2_3 (broadcastInDim S1x64x1x64 ![1, 3] bcast_S64x64_S1x64x1x64_1_3 e))) shapeCasts_S16x64x16x64_S1024x1024
/-- The Kronecker product of a row over the nodes with a matrix over the images. -/
def kronRow (a : Vec F S1x16 .f32) (e : Vec F S64x64 .f32) : Vec F S64x1024 .f32 :=
  shapeCast S64x1024 (mulf (broadcastInDim S1x64x16x64 ![0, 1, 2, 3] bcast_S1x1x16x1_S1x64x16x64_0_1_2_3 (broadcastInDim S1x1x16x1 ![0, 2] bcast_S1x16_S1x1x16x1_0_2 a))
    (broadcastInDim S1x64x16x64 ![0, 1, 2, 3] bcast_S1x64x1x64_S1x64x16x64_0_1_2_3 (broadcastInDim S1x64x1x64 ![1, 3] bcast_S64x64_S1x64x1x64_1_3 e))) shapeCasts_S1x64x16x64_S64x1024
/-- A sixteenth for every node. -/
def sixteenths : Vec F S1x16 .f32 := broadcastInDim S1x16 ![] bcast_S_S1x16 (constant S_ .f32 0x3D800000#32)

/-- The averaging matrix from later nodes. -/
def above : Vec F S16x16 .f32 :=
  where_ (cmpi .sgt (across (F := F) numbers) (down (F := F) numbers)) (inverse (subi (broadcastInDim S16 ![] bcast_S_S16 (constantI S_ 32 15#32)) (numbers (F := F)))) (constant S_ .f32 0x00000000#32)
/-- The averaging matrix from earlier nodes. -/
def below : Vec F S16x16 .f32 :=
  where_ (cmpi .slt (across (F := F) numbers) (down (F := F) numbers)) (inverse (numbers (F := F))) (constant S_ .f32 0x00000000#32)

variable (V : Valuation τ sig (Elt F))

/-! What each stretch of the program leaves in the buffers read later. -/

/-- The nodes, in the pooled array. -/
theorem after_nodes : StableHlo.after hostOps1 V (Proc.devRef .tc main_v12) = nodes (V (Proc.devRef .tc main_v9)) := by after_reads_simp; rfl
/-- The numbers of the nodes. -/
theorem after_numbers : StableHlo.after hostOps1 V (Proc.devRef .tc main_v13) = numbers := by after_reads_simp; rfl
/-- Which nodes are later. -/
theorem after_later : StableHlo.after hostOps1 V (Proc.devRef .tc main_v18) = cmpi .sgt (across (F := F) numbers) (down (F := F) numbers) := by after_reads_simp; rfl
/-- One over the number of later nodes. -/
theorem after_late_weight : StableHlo.after hostOps1 V (Proc.devRef .tc main_v26) = inverse (subi (broadcastInDim S16 ![] bcast_S_S16 (constantI S_ 32 15#32)) (numbers (F := F))) := by after_reads_simp; rfl
/-- The zero written outside the later nodes. -/
theorem after_zero : StableHlo.after hostOps1 V (Proc.devRef .tc main_cst_2) = constant S_ .f32 0x00000000#32 := by after_reads_simp
/-- The averaging matrix over the later nodes, in its condition, weight and zero. -/
theorem after_above : StableHlo.after hostOps1_1 V (Proc.devRef .tc main_v27) = where_ (V (Proc.devRef .tc main_v18)) (V (Proc.devRef .tc main_v26)) (V (Proc.devRef .tc main_cst_2)) := by after_reads_simp; rfl
/-- Which nodes are earlier. -/
theorem after_earlier : StableHlo.after hostOps1_2 V (Proc.devRef .tc main_v32) = cmpi .slt (across (V (Proc.devRef .tc main_v13))) (down (V (Proc.devRef .tc main_v13))) := by after_reads_simp; rfl
/-- One over the number of earlier nodes. -/
theorem after_early_weight : StableHlo.after hostOps1_2 V (Proc.devRef .tc main_v38) = inverse (V (Proc.devRef .tc main_v13)) := by after_reads_simp; rfl
/-- The zero written outside the earlier nodes. -/
theorem after_zero' : StableHlo.after hostOps1_2 V (Proc.devRef .tc main_cst_5) = constant S_ .f32 0x00000000#32 := by after_reads_simp
/-- The averaging matrix over the earlier nodes, in its condition, weight and zero. -/
theorem after_below : StableHlo.after hostOps1_3 V (Proc.devRef .tc main_v39) = where_ (V (Proc.devRef .tc main_v32)) (V (Proc.devRef .tc main_v38)) (V (Proc.devRef .tc main_cst_5)) := by after_reads_simp; rfl
/-- The identity over the images. -/
theorem after_eye : StableHlo.after hostOps1_4 V (Proc.devRef .tc main_v45) = eye := by after_reads_simp; rfl
/-- The product of the matrix over the later nodes with the identity. -/
theorem after_kron_above : StableHlo.after hostOps1_5 V (Proc.devRef .tc main_v46) = kron (V (Proc.devRef .tc main_v27)) (V (Proc.devRef .tc main_v45)) := by after_reads_simp; rfl
/-- The product of the matrix over the earlier nodes with the identity. -/
theorem after_kron_below : StableHlo.after hostOps1_6 V (Proc.devRef .tc main_v47) = kron (V (Proc.devRef .tc main_v39)) (V (Proc.devRef .tc main_v45)) := by after_reads_simp; rfl
/-- The row of sixteenths. -/
theorem after_sixteenths : StableHlo.after hostOps1_7 V (Proc.devRef .tc main_v48) = sixteenths := by after_reads_simp; rfl
/-- The product of the row of sixteenths with the identity. -/
theorem after_kron_row : StableHlo.after hostOps1_8 V (Proc.devRef .tc main_v49) = kronRow (V (Proc.devRef .tc main_v48)) (V (Proc.devRef .tc main_v45)) := by after_reads_simp; rfl
/-- The bias of the layer over the later nodes, as a row. -/
theorem after_bias_td : StableHlo.after hostOps1_9 V (Proc.devRef .tc main_v50) = shapeCast S1x128 (V (Proc.devRef .tc main_arg4)) shapeCasts_S128_S1x128 := by after_reads_simp; rfl
/-- The bias of the layer over the earlier nodes, as a row. -/
theorem after_bias_bu : StableHlo.after hostOps1_9 V (Proc.devRef .tc main_v51) = shapeCast S1x128 (V (Proc.devRef .tc main_arg6)) shapeCasts_S128_S1x128 := by after_reads_simp; rfl
/-- The bias of the second layer, as a row. -/
theorem after_bias_two : StableHlo.after hostOps1_9 V (Proc.devRef .tc main_v52) = shapeCast S1x128 (V (Proc.devRef .tc main_arg8)) shapeCasts_S128_S1x128 := by after_reads_simp; rfl
/-- The bias of the classifier, as a row. -/
theorem after_bias_out : StableHlo.after hostOps1_9 V (Proc.devRef .tc main_v53) = shapeCast S1x50 (V (Proc.devRef .tc main_arg10)) shapeCasts_S50_S1x50 := by after_reads_simp; rfl

variable (m : (ℓ : Loc nD τ sig) → Buf (Elt F) ℓ) (ρ : Dev nD → PrngReg) (c : Dev nD)

/-! The same buffers at the entry of the head's call. -/

/-- At the head, the nodes are those of the array that the convolution left. -/
theorem entry_nodes : W12 m ρ c (Proc.devRef .tc main_v12) = nodes ((dat0 (V1 m ρ) c).arrAt 2 cfg0.N) := by
  rw [W12_of m ρ c _ (by decide), W11_of m ρ c _ (by decide), W10_of m ρ c _ (by decide), W9_of m ρ c _ (by decide), W8_of m ρ c _ (by decide),
    W7_of m ρ c _ (by decide), W6_of m ρ c _ (by decide), W5_of m ρ c _ (by decide), W4_of m ρ c _ (by decide)]
  refine (after_nodes _).trans (congrArg nodes ?_)
  exact W2_arr m ρ c 2

/-- The identity, where the products with it are formed. -/
theorem entry_eye7 : W7 m ρ c (Proc.devRef .tc main_v45) = eye := after_eye _

/-- At the head, the matrix over the later nodes. -/
theorem entry_above : W12 m ρ c (Proc.devRef .tc main_v46) = kron above eye := by
  rw [W12_of m ρ c _ (by decide), W11_of m ρ c _ (by decide), W10_of m ρ c _ (by decide), W9_of m ρ c _ (by decide)]
  refine (after_kron_above _).trans ?_
  rw [entry_eye7, W7_of m ρ c _ (by decide), W6_of m ρ c _ (by decide), W5_of m ρ c _ (by decide)]
  refine congrArg (kron · eye) ((after_above _).trans ?_)
  rw [show W3 m ρ c _ = _ from after_later _, show W3 m ρ c _ = _ from after_late_weight _, show W3 m ρ c _ = _ from after_zero _]
  rfl

/-- At the head, the matrix over the earlier nodes. -/
theorem entry_below : W12 m ρ c (Proc.devRef .tc main_v47) = kron below eye := by
  rw [W12_of m ρ c _ (by decide), W11_of m ρ c _ (by decide), W10_of m ρ c _ (by decide)]
  refine (after_kron_below _).trans ?_
  rw [W8_of m ρ c _ (by decide), W8_of m ρ c _ (by decide), entry_eye7, W7_of m ρ c _ (by decide)]
  refine congrArg (kron · eye) ((after_below _).trans ?_)
  rw [show W5 m ρ c _ = _ from after_earlier _, show W5 m ρ c _ = _ from after_early_weight _, show W5 m ρ c _ = _ from after_zero' _, W4_of m ρ c _ (by decide),
    show W3 m ρ c _ = _ from after_numbers _]
  rfl

/-- At the head, the matrix of the mean over an image. -/
theorem entry_mean : W12 m ρ c (Proc.devRef .tc main_v49) = kronRow sixteenths eye := by
  rw [W12_of m ρ c _ (by decide)]
  refine (after_kron_row _).trans ?_
  rw [show W10 m ρ c (Proc.devRef .tc main_v48) = _ from after_sixteenths _, W10_of m ρ c _ (by decide), W9_of m ρ c _ (by decide), W8_of m ρ c _ (by decide), entry_eye7]

/-- At the head, the first bias. -/
theorem entry_bias_td : W12 m ρ c (Proc.devRef .tc main_v50) = shapeCast S1x128 (m ((c : Thread nD τ).loc main_arg4)) shapeCasts_S128_S1x128 := by
  refine (after_bias_td _).trans ?_; rw [W11_args m ρ c _ (by decide)]
/-- At the head, the second bias. -/
theorem entry_bias_bu : W12 m ρ c (Proc.devRef .tc main_v51) = shapeCast S1x128 (m ((c : Thread nD τ).loc main_arg6)) shapeCasts_S128_S1x128 := by
  refine (after_bias_bu _).trans ?_; rw [W11_args m ρ c _ (by decide)]
/-- At the head, the third bias. -/
theorem entry_bias_two : W12 m ρ c (Proc.devRef .tc main_v52) = shapeCast S1x128 (m ((c : Thread nD τ).loc main_arg8)) shapeCasts_S128_S1x128 := by
  refine (after_bias_two _).trans ?_; rw [W11_args m ρ c _ (by decide)]
/-- At the head, the last bias. -/
theorem entry_bias_out : W12 m ρ c (Proc.devRef .tc main_v53) = shapeCast S1x50 (m ((c : Thread nD τ).loc main_arg10)) shapeCasts_S50_S1x50 := by
  refine (after_bias_out _).trans ?_; rw [W11_args m ρ c _ (by decide)]

/-! Entries. -/

/-- Comparing two image numbers. -/
theorem eye_word : ∀ b b' : Fin 64, IntOp.cmpi .eq (IntOp.addi (BitVec.ofNat 32 b.1) 0#32) (BitVec.ofNat 32 b'.1) = if b = b' then 1#1 else 0#1 := by
  decide +kernel
/-- Whether a node comes later. -/
theorem later_word : ∀ i j : Fin 16, IntOp.cmpi .sgt (BitVec.ofNat 32 j.1) (BitVec.ofNat 32 i.1) = if i.1 < j.1 then 1#1 else 0#1 := by
  decide +kernel
/-- Whether a node comes earlier. -/
theorem earlier_word : ∀ i j : Fin 16, IntOp.cmpi .slt (BitVec.ofNat 32 j.1) (BitVec.ofNat 32 i.1) = if j.1 < i.1 then 1#1 else 0#1 := by
  decide +kernel
/-- How many nodes come later, at least one. -/
theorem late_word : ∀ i : Fin 16, IntOp.maxsi (IntOp.subi (15#32) (BitVec.ofNat 32 i.1)) 1#32 = BitVec.ofNat 32 (max (15 - i.1) 1) := by
  decide +kernel
/-- How many nodes come earlier, at least one. -/
theorem early_word : ∀ i : Fin 16, IntOp.maxsi (BitVec.ofNat 32 i.1) 1#32 = BitVec.ofNat 32 (max i.1 1) := by
  decide +kernel
/-- One over a small positive integer. -/
theorem div_word (k : ℕ) (h : 0 < k) (hk : k < 1000) :
    Ideal.div 1 (FloatOps.sitofp (F := Ideal) FTy.f32 (BitVec.ofNat 32 k)) = (((k : ℝ)⁻¹ : ℝ) : EReal) := by
  have h1 : (BitVec.ofNat 32 k).toInt = k := by
    rw [BitVec.toInt_eq_toNat_cond, BitVec.toNat_ofNat]
    split <;> omega
  show Ideal.div 1 ((((BitVec.ofNat 32 k).toInt : ℝ)) : EReal) = _
  rw [h1, Ideal.div_coe (by have : (0:ℝ) < k := by exact_mod_cast h
                            simpa using this.ne'), one_mul]
  simp

/-- The nodes, entry by entry. -/
theorem nodes_at (p : Vec Ideal S64x64x1 .f32) (i : Fin 16) (b : Fin 64) (d : Fin 4) (n : Fin 1024) (hn : n.1 = i.1 * 64 + b.1) (o : Fin 64) (ho : o.1 = i.1 * 4 + d.1) :
    nodes p (ix2 n d) = p (ix3 b o 0) := by
  pointwise [nodes]
  have h1 : (⟨n.1 % 64, by omega⟩ : Fin 64) = b := Fin.ext (by dsimp only; omega)
  have h2 : (⟨n.1 / 64 * 4 + d.1, by omega⟩ : Fin 64) = o := Fin.ext (by dsimp only; omega)
  rw [h1, h2]

/-- The identity, entry by entry. -/
theorem eye_at (b b' : Fin 64) : eye (F := Ideal) (ix2 b b') = if b = b' then 1 else 0 := by
  pointwise [eye]
  rw [eye_word]
  show (((if b = b' then 1#1 else 0#1).toNat : ℝ) : EReal) = _
  split <;> simp

/-- A product with the identity, entry by entry. -/
theorem kron_at (a : Vec Ideal S16x16 .f32) (e : Vec Ideal S64x64 .f32) (i j : Fin 16) (b b' : Fin 64) (n n' : Fin 1024)
    (hn : n.1 = i.1 * 64 + b.1) (hn' : n'.1 = j.1 * 64 + b'.1) : kron a e (ix2 n n') = a (ix2 i j) * e (ix2 b b') := by
  pointwise [kron]
  have h1 : (⟨n.1 / 64, by omega⟩ : Fin 16) = i := Fin.ext (by dsimp only; omega)
  have h2 : (⟨n'.1 / 64, by omega⟩ : Fin 16) = j := Fin.ext (by dsimp only; omega)
  have h3 : (⟨n.1 % 64, by omega⟩ : Fin 64) = b := Fin.ext (by dsimp only; omega)
  have h4 : (⟨n'.1 % 64, by omega⟩ : Fin 64) = b' := Fin.ext (by dsimp only; omega)
  rw [h1, h2, h3, h4]

/-- A row's product with the identity, entry by entry. -/
theorem kronRow_at (a : Vec Ideal S1x16 .f32) (e : Vec Ideal S64x64 .f32) (j : Fin 16) (b b' : Fin 64) (n' : Fin 1024)
    (hn' : n'.1 = j.1 * 64 + b'.1) : kronRow a e (ix2 b n') = a (ix2 0 j) * e (ix2 b b') := by
  pointwise [kronRow]
  have h2 : (⟨n'.1 / 64, by omega⟩ : Fin 16) = j := Fin.ext (by dsimp only; omega)
  have h4 : (⟨n'.1 % 64, by omega⟩ : Fin 64) = b' := Fin.ext (by dsimp only; omega)
  rw [h2, h4]

/-- The matrix over the later nodes, entry by entry. -/
theorem above_at (i j : Fin 16) : above (F := Ideal) (ix2 i j) = if i.1 < j.1 then ((((max (15 - i.1) 1 : ℕ) : ℝ)⁻¹ : ℝ) : EReal) else 0 := by
  pointwise [above, where_, inverse, across, down, numbers]
  rw [later_word, late_word, div_word _ (by omega) (by omega)]
  unfold Scalar.select
  split <;> simp_all

/-- The matrix over the earlier nodes, entry by entry. -/
theorem below_at (i j : Fin 16) : below (F := Ideal) (ix2 i j) = if j.1 < i.1 then ((((max i.1 1 : ℕ) : ℝ)⁻¹ : ℝ) : EReal) else 0 := by
  pointwise [below, where_, inverse, across, down, numbers]
  rw [earlier_word, early_word, div_word _ (by omega) (by omega)]
  unfold Scalar.select
  split <;> simp_all

/-- The row of sixteenths, entry by entry. -/
theorem sixteenths_at (j : Fin 16) : sixteenths (F := Ideal) (ix2 0 j) = (((16 : ℝ)⁻¹ : ℝ) : EReal) := by
  pointwise [sixteenths]
  simp [Ideal.ofBits, Ideal.ieee, -EReal.coe_mul]
  norm_num

end Cert.KernelIdeal.Graph

end
-- ==== Proof.GraphMath.lean ====
/- The graph head of one image in closed form: what a layer computes from the nodes before or after each node, and the
   equality of averaging before and after a linear map of non-negative features. -/
module

public import proofs.«01_k».proof.Proof.Math
public import Mathlib.Data.EReal.Inv

@[expose] public section

noncomputable section

namespace Cert.Math

/-- One graph layer at one node: the mean (with weight `a`) of the features of the nodes `q` picks, a linear map, a bias, clamped at zero. -/
def layer {K : ℕ} (q : Fin 16 → Prop) [DecidablePred q] (a : ℝ) (h : Fin 16 → Fin K → EReal) (W : Fin K → EReal) (b : EReal) : EReal :=
  max ((∑ k, ((∑ j, if q j then h j k else 0) * (a : EReal)) * W k) + b) 0

/-- The mean's weight from the later nodes of node `i`: one over their number, at least one. -/
def late (i : Fin 16) : ℝ := ((max (15 - i.1) 1 : ℕ) : ℝ)⁻¹
/-- The mean's weight from the earlier nodes of node `i`. -/
def early (i : Fin 16) : ℝ := ((max i.1 1 : ℕ) : ℝ)⁻¹

/-- The weight over the later nodes is not negative. -/
theorem late_nonneg (i : Fin 16) : 0 ≤ late i := inv_nonneg.mpr (Nat.cast_nonneg _)
/-- The weight over the earlier nodes is not negative. -/
theorem early_nonneg (i : Fin 16) : 0 ≤ early i := inv_nonneg.mpr (Nat.cast_nonneg _)

/-- A layer's output is not negative. -/
theorem layer_nonneg {K : ℕ} (q : Fin 16 → Prop) [DecidablePred q] (a : ℝ) (h : Fin 16 → Fin K → EReal) (W : Fin K → EReal) (b : EReal) :
    0 ≤ layer q a h W b := le_max_right _ _

/-- The first layer of the head, both directions side by side. -/
def both (f : Fin 16 → Fin 4 → EReal) (Wt : Fin 4 → Fin 128 → EReal) (bt : Fin 128 → EReal) (Wu : Fin 4 → Fin 128 → EReal) (bu : Fin 128 → EReal)
    (i : Fin 16) (k : Fin 256) : EReal :=
  if h : k.1 < 128 then layer (fun j => i.1 < j.1) (late i) f (fun d => Wt d ⟨k.1, h⟩) (bt ⟨k.1, h⟩)
  else layer (fun j => j.1 < i.1) (early i) f (fun d => Wu d ⟨k.1 - 128, by omega⟩) (bu ⟨k.1 - 128, by omega⟩)

/-- The two first layers side by side are not negative. -/
theorem both_nonneg (f : Fin 16 → Fin 4 → EReal) (Wt : Fin 4 → Fin 128 → EReal) (bt : Fin 128 → EReal) (Wu : Fin 4 → Fin 128 → EReal) (bu : Fin 128 → EReal)
    (i : Fin 16) (k : Fin 256) : 0 ≤ both f Wt bt Wu bu i k := by
  unfold both
  split <;> exact layer_nonneg _ _ _ _ _

/-- The whole head at one output: two layers, the mean over the nodes, the last linear map. -/
def head (f : Fin 16 → Fin 4 → EReal) (Wt : Fin 4 → Fin 128 → EReal) (bt : Fin 128 → EReal) (Wu : Fin 4 → Fin 128 → EReal) (bu : Fin 128 → EReal)
    (Wg : Fin 256 → Fin 128 → EReal) (bg : Fin 128 → EReal) (Wc : Fin 128 → EReal) (bc : EReal) : EReal :=
  (∑ o : Fin 128, ((∑ i : Fin 16, layer (fun j => i.1 < j.1) (late i) (both f Wt bt Wu bu) (fun k => Wg k o) (bg o)) * (((16 : ℝ)⁻¹ : ℝ) : EReal)) * Wc o) + bc

/-- Averaging the images of the features under a linear map is the linear map of the averaged features, for features not negative. -/
theorem mean_linear {K : ℕ} (q : Fin 16 → Prop) [DecidablePred q] (a : ℝ) (ha : 0 ≤ a) (h : Fin 16 → Fin K → EReal) (hh : ∀ j k, 0 ≤ h j k)
    (W : Fin K → EReal) :
    ∑ j, (if q j then (a : EReal) else 0) * ∑ k, h j k * W k = ∑ k, ((∑ j, if q j then h j k else 0) * (a : EReal)) * W k := by
  have ha' : (0 : EReal) ≤ a := by exact_mod_cast ha
  have h1 : ∀ k, ((∑ j, if q j then h j k else 0) * (a : EReal)) * W k = ∑ j, if q j then (a : EReal) * (h j k * W k) else 0 := by
    intro k
    rw [sum_mul_nonneg _ _ (fun j => if q j then h j k else 0) (fun j => by split; exact hh j k; exact le_rfl),
      sum_mul_nonneg _ _ (fun j => (if q j then h j k else 0) * (a : EReal)) (fun j => EReal.mul_nonneg (by split; exact hh j k; exact le_rfl) ha')]
    refine Finset.sum_congr rfl fun j _ => ?_
    split
    · rw [mul_comm (h j k), mul_assoc]
    · rw [zero_mul, zero_mul]
  simp only [h1]
  rw [Finset.sum_comm]
  refine Finset.sum_congr rfl fun j _ => ?_
  split
  · rw [mul_sum_coe _ a ha]
  · simp

/-- A sum against the Kronecker product with the identity over the images: only the row's own image counts. -/
theorem sum_kron (A : Fin 16 → EReal) (b : Fin 64) (g : Fin 16 → Fin 64 → EReal) (M : Fin (16 * 64) → EReal)
    (hM : ∀ (j : Fin 16) (b' : Fin 64), M ⟨j.1 * 64 + b'.1, by omega⟩ = (A j * (if b = b' then 1 else 0)) * g j b') :
    ∑ n, M n = ∑ j, A j * g j b := by
  rw [sum_mul 16 64]
  refine Finset.sum_congr rfl fun j _ => ?_
  rw [Finset.sum_eq_single b]
  · rw [hM, if_pos rfl, mul_one]
  · intro b' _ hb
    rw [hM, if_neg (Ne.symm hb), mul_zero, zero_mul]
  · simp

end Cert.Math

end
-- ==== Proof.HeadValue.lean ====
/- What the graph head's call computes from its operands, entry by entry. -/
module

public import proofs.«01_k».proof.Proof.HostGraph
public import proofs.«01_k».proof.Proof.GraphMath
public import Idealize.ShloMosaic.Lib.Pointwise

@[expose] public section

set_option maxRecDepth 16384

noncomputable section

namespace Cert.KernelIdeal.Graph

open Cert.KernelIdeal Cert.KernelIdeal.Gen Cert.KernelIdeal.Full Cert.Math
open Idealize.ShloMosaic Idealize.ShloMosaic.TcCoe Idealize.ShloMosaic.Tactic

/-- The second layer before its bias, as sums over rows and columns of the operands. -/
theorem hidden_apply (x0 : Vec Ideal S1024x4 .f32) (x1 x2 x3 : Vec Ideal S1024x1024 .f32) (x4 : Vec Ideal S4x128 .f32) (x5 : Vec Ideal S1x128 .f32)
    (x6 : Vec Ideal S4x128 .f32) (x7 : Vec Ideal S1x128 .f32) (x8 : Vec Ideal S256x128 .f32) (n : Fin 1024) (o : Fin 128) :
    k1_pay2 x0 x1 x4 x5 x2 x6 x7 x3 x8 (ix2 n o)
      = ∑ x : Fin 1024, x3 (ix2 n x) *
        ((∑ k : Fin 128, max ((∑ r : Fin 1024, x1 (ix2 x r) * ∑ d : Fin 4, x0 (ix2 r d) * x4 (ix2 d k)) + x5 (ix2 0 k)) 0 * x8 (ix2 ⟨k.1, by omega⟩ o))
        + ∑ k : Fin 128, max ((∑ r : Fin 1024, x2 (ix2 x r) * ∑ d : Fin 4, x0 (ix2 r d) * x6 (ix2 d k)) + x7 (ix2 0 k)) 0 * x8 (ix2 ⟨128 + k.1, by omega⟩ o)) := by
  pointwise [k1_pay2]

/-- The mean over the nodes and the last linear map. -/
theorem final_apply (y : Vec Ideal S1024x128 .f32) (x9 : Vec Ideal S1x128 .f32) (x3 : Vec Ideal S64x1024 .f32) (x10 : Vec Ideal S128x50 .f32) (x11 : Vec Ideal S1x50 .f32)
    (b : Fin 64) (l : Fin 50) :
    k1_pay1 y (k1_pay3 x9) x3 x10 x11 (ix2 b l)
      = (∑ o : Fin 128, (∑ n : Fin 1024, x3 (ix2 b n) * max (y (ix2 n o) + x9 (ix2 0 o)) 0) * x10 (ix2 o l)) + x11 (ix2 0 l) := by
  pointwise [k1_pay1, k1_pay3]

/-- A row of a Kronecker product against a column: only the nodes of the row's own image count. -/
theorem row_kron (a : Vec Ideal S16x16 .f32) (i : Fin 16) (b : Fin 64) (g : Fin 1024 → EReal) :
    ∑ n : Fin 1024, kron a eye (ix2 ⟨i.1 * 64 + b.1, by omega⟩ n) * g n = ∑ j : Fin 16, a (ix2 i j) * g ⟨j.1 * 64 + b.1, by omega⟩ :=
  sum_kron (fun j => a (ix2 i j)) b (fun j b' => g ⟨j.1 * 64 + b'.1, by omega⟩) _ fun j b' => by
    rw [kron_at a eye i j b b' _ _ rfl rfl, eye_at]

/-- One layer of the head on Kronecker operands is one layer of the graph on the row's image. -/
theorem layer_kron {K : ℕ} (a : Vec Ideal S16x16 .f32) (i : Fin 16) (b : Fin 64) (q : Fin 16 → Prop) [DecidablePred q] (w : ℝ) (hw : 0 ≤ w)
    (ha : ∀ j, a (ix2 i j) = if q j then (w : EReal) else 0) (g : Fin 1024 → Fin K → EReal) (f : Fin 16 → Fin K → EReal)
    (hf : ∀ j k, 0 ≤ f j k) (hg : ∀ j k, g ⟨j.1 * 64 + b.1, by omega⟩ k = f j k) (W : Fin K → EReal) (c : EReal) :
    max ((∑ n : Fin 1024, kron a eye (ix2 ⟨i.1 * 64 + b.1, by omega⟩ n) * ∑ k, g n k * W k) + c) 0 = layer q w f W c := by
  rw [row_kron a i b fun n => ∑ k, g n k * W k]
  unfold layer
  rw [← mean_linear q w hw f hf W]
  simp only [ha, hg]

/-- The head's output for one image, its operands the Kronecker products: the head of the graph in closed form. -/
theorem head_at (x0 : Vec Ideal S1024x4 .f32) (x4 : Vec Ideal S4x128 .f32) (x5 : Vec Ideal S1x128 .f32)
    (x6 : Vec Ideal S4x128 .f32) (x7 : Vec Ideal S1x128 .f32) (x8 : Vec Ideal S256x128 .f32) (x9 : Vec Ideal S1x128 .f32)
    (x10 : Vec Ideal S128x50 .f32) (x11 : Vec Ideal S1x50 .f32) (b : Fin 64) (l : Fin 50) (f : Fin 16 → Fin 4 → EReal) (hf : ∀ j d, 0 ≤ f j d)
    (hx : ∀ (j : Fin 16) (d : Fin 4), x0 (ix2 ⟨j.1 * 64 + b.1, by omega⟩ d) = f j d) :
    k1_pay1 (k1_pay2 x0 (kron above eye) x4 x5 (kron below eye) x6 x7 (kron above eye) x8) (k1_pay3 x9) (kronRow sixteenths eye) x10 x11 (ix2 b l)
      = head f (fun d k => x4 (ix2 d k)) (fun k => x5 (ix2 0 k)) (fun d k => x6 (ix2 d k)) (fun k => x7 (ix2 0 k)) (fun k o => x8 (ix2 k o))
          (fun o => x9 (ix2 0 o)) (fun o => x10 (ix2 o l)) (x11 (ix2 0 l)) := by
  rw [final_apply]
  unfold head
  refine congrArg (· + x11 (ix2 0 l)) (Finset.sum_congr rfl fun o _ => congrArg (· * x10 (ix2 o l)) ?_)
  have h1 : ∀ n : Fin 1024, k1_pay2 x0 (kron above eye) x4 x5 (kron below eye) x6 x7 (kron above eye) x8 (ix2 n o)
      = ∑ r : Fin 1024, kron above eye (ix2 n r) * ∑ k : Fin 256,
          (if h : k.1 < 128 then max ((∑ r' : Fin 1024, kron above eye (ix2 r r') * ∑ d : Fin 4, x0 (ix2 r' d) * x4 (ix2 d ⟨k.1, h⟩)) + x5 (ix2 0 ⟨k.1, h⟩)) 0
            else max ((∑ r' : Fin 1024, kron below eye (ix2 r r') * ∑ d : Fin 4, x0 (ix2 r' d) * x6 (ix2 d ⟨k.1 - 128, by omega⟩)) + x7 (ix2 0 ⟨k.1 - 128, by omega⟩)) 0)
          * x8 (ix2 k o) := by
    intro n
    rw [hidden_apply]
    refine Finset.sum_congr rfl fun r _ => congrArg _ ?_
    refine Eq.trans ?_ (Fin.sum_univ_add (a := 128) (b := 128) (fun k : Fin (128 + 128) => (if h : k.1 < 128 then max ((∑ r' : Fin 1024, kron above eye (ix2 r r') * ∑ d : Fin 4, x0 (ix2 r' d) * x4 (ix2 d ⟨k.1, h⟩)) + x5 (ix2 0 ⟨k.1, h⟩)) 0
            else max ((∑ r' : Fin 1024, kron below eye (ix2 r r') * ∑ d : Fin 4, x0 (ix2 r' d) * x6 (ix2 d ⟨k.1 - 128, by omega⟩)) + x7 (ix2 0 ⟨k.1 - 128, by omega⟩)) 0)
          * x8 (ix2 k o))).symm
    refine congrArg₂ (· + ·) (Finset.sum_congr rfl fun k _ => ?_) (Finset.sum_congr rfl fun k _ => ?_)
    · rw [dif_pos (show (Fin.castAdd 128 k).1 < 128 from k.2)]; rfl
    · rw [dif_neg (show ¬ (Fin.natAdd 128 k).1 < 128 by simp)]
      have hk : (⟨(Fin.natAdd 128 k).1 - 128, by have := k.2; simp only [Fin.val_natAdd]; omega⟩ : Fin 128) = k := Fin.ext (by simp)
      rw [hk]; rfl
  have h2 : ∀ i : Fin 16, max (k1_pay2 x0 (kron above eye) x4 x5 (kron below eye) x6 x7 (kron above eye) x8 (ix2 ⟨i.1 * 64 + b.1, by omega⟩ o) + x9 (ix2 0 o)) 0
      = layer (fun j => i.1 < j.1) (late i) (both f (fun d k => x4 (ix2 d k)) (fun k => x5 (ix2 0 k)) (fun d k => x6 (ix2 d k)) (fun k => x7 (ix2 0 k)))
          (fun k => x8 (ix2 k o)) (x9 (ix2 0 o)) := by
    intro i
    rw [h1]
    refine layer_kron above i b (fun j => i.1 < j.1) (late i) (late_nonneg i) (fun j => above_at i j)
      (fun (r : Fin 1024) (k : Fin 256) => if h : k.1 < 128 then max ((∑ r' : Fin 1024, kron above eye (ix2 r r') * ∑ d : Fin 4, x0 (ix2 r' d) * x4 (ix2 d ⟨k.1, h⟩)) + x5 (ix2 0 ⟨k.1, h⟩)) 0
            else max ((∑ r' : Fin 1024, kron below eye (ix2 r r') * ∑ d : Fin 4, x0 (ix2 r' d) * x6 (ix2 d ⟨k.1 - 128, by omega⟩)) + x7 (ix2 0 ⟨k.1 - 128, by omega⟩)) 0)
      _ (both_nonneg _ _ _ _ _) (fun j k => ?_) _ _
    unfold both
    split
    · exact layer_kron above j b (fun j' => j.1 < j'.1) (late j) (late_nonneg j) (fun j' => above_at j j') (fun r d => x0 (ix2 r d)) f hf hx _ _
    · exact layer_kron below j b (fun j' => j'.1 < j.1) (early j) (early_nonneg j) (fun j' => below_at j j') (fun r d => x0 (ix2 r d)) f hf hx _ _
  rw [mul_comm, mul_sum_coe _ _ (by norm_num)]
  refine (sum_kron (fun j => (((16 : ℝ)⁻¹ : ℝ) : EReal)) b (fun j b' => max (k1_pay2 x0 (kron above eye) x4 x5 (kron below eye) x6 x7 (kron above eye) x8 (ix2 ⟨j.1 * 64 + b'.1, by omega⟩ o) + x9 (ix2 0 o)) 0) _ fun j b' => ?_).trans ?_
  · rw [kronRow_at sixteenths eye j b b' _ rfl, eye_at, sixteenths_at]
  · exact Finset.sum_congr rfl fun i _ => congrArg _ (h2 i)

end Cert.KernelIdeal.Graph

end
-- ==== Proof.KernelValue.lean ====
/- The value of the whole program at one output entry: the head of the graph of the pooled convolution of the image. -/
module

public import proofs.«01_k».proof.Proof.ConvArray
public import proofs.«01_k».proof.Proof.HostWeights
public import proofs.«01_k».proof.Proof.HeadValue
public import Idealize.ShloMosaic.Lib.Pipeline.ValueKit

@[expose] public section

set_option maxRecDepth 16384

noncomputable section

namespace Cert.KernelIdeal.Graph

open Cert.KernelIdeal Cert.KernelIdeal.Gen Cert.KernelIdeal.Full Cert.KernelIdeal.Conv Cert.Math
open Idealize.ShloMosaic Idealize.ShloMosaic.TcCoe Idealize.ShloMosaic.Tactic
open Idealize.ShloMosaic.Pipeline (Dat Cfg Window)

section
variable (V : (c : Dev nD) → (b : Ref sig .tc) → Buf (Elt Ideal) ((c : Thread nD τ).loc b))

/-- Two indices are equal where the first starts at zero and steps by one. -/
theorem idx_eq (s : Shape) (i j : s.Idx) (h : ∀ a, (i a).val = 0 * s.size a + 1 * (j a).val) : i = j :=
  funext fun a => Fin.ext ((h a).trans (by omega))

/-! Each operand's window of the head's call is the whole array. -/

/-- The head's block 0 is its whole array. -/
theorem block_0 (c : Dev nD) (t : Fin cfg1.N) : (iblk1 V c 0 t : Vec Ideal S1024x4 .f32) = V c main_v12 :=
  funext fun j => congrArg (V c main_v12) (idx_eq S1024x4 (((cfg1.win 0).blk t).view.emb j) j fun _ => rfl)
/-- The head's block 1 is its whole array. -/
theorem block_1 (c : Dev nD) (t : Fin cfg1.N) : (iblk1 V c 1 t : Vec Ideal S1024x1024 .f32) = V c main_v46 :=
  funext fun j => congrArg (V c main_v46) (idx_eq S1024x1024 (((cfg1.win 1).blk t).view.emb j) j fun _ => rfl)
/-- The head's block 2 is its whole array. -/
theorem block_2 (c : Dev nD) (t : Fin cfg1.N) : (iblk1 V c 2 t : Vec Ideal S1024x1024 .f32) = V c main_v47 :=
  funext fun j => congrArg (V c main_v47) (idx_eq S1024x1024 (((cfg1.win 2).blk t).view.emb j) j fun _ => rfl)
/-- The head's block 3 is its whole array. -/
theorem block_3 (c : Dev nD) (t : Fin cfg1.N) : (iblk1 V c 3 t : Vec Ideal S64x1024 .f32) = V c main_v49 :=
  funext fun j => congrArg (V c main_v49) (idx_eq S64x1024 (((cfg1.win 3).blk t).view.emb j) j fun _ => rfl)
/-- The head's block 4 is its whole array. -/
theorem block_4 (c : Dev nD) (t : Fin cfg1.N) : (iblk1 V c 4 t : Vec Ideal S4x128 .f32) = V c main_arg3 :=
  funext fun j => congrArg (V c main_arg3) (idx_eq S4x128 (((cfg1.win 4).blk t).view.emb j) j fun _ => rfl)
/-- The head's block 5 is its whole array. -/
theorem block_5 (c : Dev nD) (t : Fin cfg1.N) : (iblk1 V c 5 t : Vec Ideal S1x128 .f32) = V c main_v50 :=
  funext fun j => congrArg (V c main_v50) (idx_eq S1x128 (((cfg1.win 5).blk t).view.emb j) j fun _ => rfl)
/-- The head's block 6 is its whole array. -/
theorem block_6 (c : Dev nD) (t : Fin cfg1.N) : (iblk1 V c 6 t : Vec Ideal S4x128 .f32) = V c main_arg5 :=
  funext fun j => congrArg (V c main_arg5) (idx_eq S4x128 (((cfg1.win 6).blk t).view.emb j) j fun _ => rfl)
/-- The head's block 7 is its whole array. -/
theorem block_7 (c : Dev nD) (t : Fin cfg1.N) : (iblk1 V c 7 t : Vec Ideal S1x128 .f32) = V c main_v51 :=
  funext fun j => congrArg (V c main_v51) (idx_eq S1x128 (((cfg1.win 7).blk t).view.emb j) j fun _ => rfl)
/-- The head's block 8 is its whole array. -/
theorem block_8 (c : Dev nD) (t : Fin cfg1.N) : (iblk1 V c 8 t : Vec Ideal S256x128 .f32) = V c main_arg7 :=
  funext fun j => congrArg (V c main_arg7) (idx_eq S256x128 (((cfg1.win 8).blk t).view.emb j) j fun _ => rfl)
/-- The head's block 9 is its whole array. -/
theorem block_9 (c : Dev nD) (t : Fin cfg1.N) : (iblk1 V c 9 t : Vec Ideal S1x128 .f32) = V c main_v52 :=
  funext fun j => congrArg (V c main_v52) (idx_eq S1x128 (((cfg1.win 9).blk t).view.emb j) j fun _ => rfl)
/-- The head's block 10 is its whole array. -/
theorem block_10 (c : Dev nD) (t : Fin cfg1.N) : (iblk1 V c 10 t : Vec Ideal S128x50 .f32) = V c main_arg9 :=
  funext fun j => congrArg (V c main_arg9) (idx_eq S128x50 (((cfg1.win 10).blk t).view.emb j) j fun _ => rfl)
/-- The head's block 11 is its whole array. -/
theorem block_11 (c : Dev nD) (t : Fin cfg1.N) : (iblk1 V c 11 t : Vec Ideal S1x50 .f32) = V c main_v53 :=
  funext fun j => congrArg (V c main_v53) (idx_eq S1x50 (((cfg1.win 11).blk t).view.emb j) j fun _ => rfl)

/-- The output's window is the whole array. -/
theorem mem_out (t : Fin cfg1.N) (i : S64x50.Idx) :
    i ∈ ((cfg1.win 12).blk t).view.set ↔ ∀ a : Fin 2, 0 * S64x50.size a ≤ (i a).val ∧ (i a).val < 0 * S64x50.size a + S64x50.size a := by
  show i ∈ ((View.whole main_v54).slice (win1_12.rect t)).set ↔ _
  rw [View.set_slice_whole, Rect.mem_set_unit]
  exact Iff.rfl

/-- Writing an output through its window writes all of it. -/
theorem out_block (t : Fin cfg1.N) (O : Vec Ideal S64x50 .f32) :
    (cfg1.win 12).cut (grid1.coords t) O = ((cfg1.win 12).blk t).view.read (Elt Ideal) O :=
  funext fun j => congrArg O ((idx_eq S64x50 (((cfg1.win 12).blk t).view.emb j) j fun _ => rfl).symm)

/-- The piece the head's body stores is its whole output. -/
theorem out_eq (x0 : Vec Ideal S1024x4 .f32) (x1 x2 : Vec Ideal S1024x1024 .f32) (x3 : Vec Ideal S64x1024 .f32) (x4 : Vec Ideal S4x128 .f32)
    (x5 : Vec Ideal S1x128 .f32) (x6 : Vec Ideal S4x128 .f32) (x7 : Vec Ideal S1x128 .f32) (x8 : Vec Ideal S256x128 .f32) (x9 : Vec Ideal S1x128 .f32)
    (x10 : Vec Ideal S128x50 .f32) (x11 : Vec Ideal S1x50 .f32) :
    out1_12 x0 x1 x2 x3 x4 x5 x6 x7 x8 x9 x10 x11 = k1_pay1 (k1_pay2 x0 x1 x4 x5 x2 x6 x7 x1 x8) (k1_pay3 x9) x3 x10 x11 := by
  unfold out1_12
  rw [View.canon_cons_unit_lit _ _ _ (by decide)]
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide), View.ld_unit_lit _ x7 (by decide),
    View.ld_unit_lit _ x8 (by decide), View.ld_unit_lit _ x9 (by decide), View.ld_unit_lit _ x10 (by decide), View.ld_unit_lit _ x11 (by decide)]

/-- The array after the head's call. -/
theorem head_array (c : Dev nD) : (dat1 V c).arrAt 12 cfg1.N
    = (k1_pay1 (k1_pay2 (V c main_v12) (V c main_v46) (V c main_arg3) (V c main_v50) (V c main_v47) (V c main_arg5) (V c main_v51) (V c main_v46) (V c main_arg7))
        (k1_pay3 (V c main_v52)) (V c main_v49) (V c main_arg9) (V c main_v53) : Vec Ideal S64x50 .f32) := by
  refine (dat1 V c).arrAt_eq_of_cover 12 _ (fun t _ => ?_) fun i => ⟨(⟨0, by decide⟩ : Fin cfg1.N), flush1_12 _, ?_⟩
  · show (cfg1.win 12).cut (grid1.coords t) ((dat1 V c).after 12 t) = _
    rw [after1_12, block_0, block_1, block_2, block_3, block_4, block_5, block_6, block_7, block_8, block_9, block_10, block_11, out_eq]
    exact out_block t _
  · rw [mem_out]
    intro a
    have := (i a).isLt
    constructor
    · omega
    · rw [Nat.zero_mul, Nat.zero_add]; exact this
end

end Cert.KernelIdeal.Graph

end
-- ==== Proof.KernelResult.lean ====
/- The value of the whole program at one output entry, in the arguments: the head of the graph of the pooled convolution. -/
module

public import proofs.«01_k».proof.Proof.KernelValue

@[expose] public section

set_option maxRecDepth 16384

noncomputable section

namespace Cert.KernelIdeal.Graph

open Cert.KernelIdeal Cert.KernelIdeal.Gen Cert.KernelIdeal.Full Cert.KernelIdeal.Conv Cert.Math
open Idealize.ShloMosaic Idealize.ShloMosaic.TcCoe Idealize.ShloMosaic.Tactic

variable (m : (ℓ : Loc nD τ sig) → Buf (Elt Ideal) ℓ) (ρ : Dev nD → PrngReg) (c : Dev nD)

/-- The pooled array at the entry of the host operations after the convolution's call. -/
theorem pooled_array (x : Vec Ideal S64x3x224x224 .f32) (hx : m ((c : Thread nD τ).loc main_arg0) = x) (w : Vec Ideal S64x3x3x3 .f32)
    (hw : m ((c : Thread nD τ).loc main_arg1) = w) (y : Vec Ideal S64 .f32) (hy : m ((c : Thread nD τ).loc main_arg2) = y) :
    (dat0 (V1 m ρ) c).arrAt 2 cfg0.N = pooled x (fun o i kh kw => w (ix4 o i kh kw)) (fun o => y (ix1 o)) := by
  subst hw hy
  exact array_eq (V1 m ρ) c x ((W1_args m ρ c main_arg0 (by decide)).trans hx) _ (after_weights (W0 m ρ c)) (weights_sound _ _)

/-- A pooled feature is not negative. -/
theorem pool_nonneg (x : Fin 3 → Fin 224 → Fin 224 → EReal) (W : Fin 3 → Fin 3 → Fin 3 → EReal) (b : EReal) :
    0 ≤ poolSum x W b * ((50176⁻¹ : ℝ) : EReal) :=
  EReal.mul_nonneg (Finset.sum_nonneg fun _ _ => Finset.sum_nonneg fun _ _ => le_max_right _ _) (by exact_mod_cast (by norm_num : (0:ℝ) ≤ 50176⁻¹))

/-- The head's array, its operands named. -/
theorem head_array_of (V : (c : Dev nD) → (b : Ref sig .tc) → Buf (Elt Ideal) ((c : Thread nD τ).loc b)) (c : Dev nD)
    {x0 : Vec Ideal S1024x4 .f32} {x1 x2 : Vec Ideal S1024x1024 .f32} {x3 : Vec Ideal S64x1024 .f32} {x4 : Vec Ideal S4x128 .f32}
    {x5 : Vec Ideal S1x128 .f32} {x6 : Vec Ideal S4x128 .f32} {x7 : Vec Ideal S1x128 .f32} {x8 : Vec Ideal S256x128 .f32} {x9 : Vec Ideal S1x128 .f32}
    {x10 : Vec Ideal S128x50 .f32} {x11 : Vec Ideal S1x50 .f32}
    (h0 : V c main_v12 = x0) (h1 : V c main_v46 = x1) (h2 : V c main_v47 = x2) (h3 : V c main_v49 = x3) (h4 : V c main_arg3 = x4) (h5 : V c main_v50 = x5)
    (h6 : V c main_arg5 = x6) (h7 : V c main_v51 = x7) (h8 : V c main_arg7 = x8) (h9 : V c main_v52 = x9) (h10 : V c main_arg9 = x10) (h11 : V c main_v53 = x11) :
    (dat1 V c).arrAt 12 cfg1.N = k1_pay1 (k1_pay2 x0 x1 x4 x5 x2 x6 x7 x1 x8) (k1_pay3 x9) x3 x10 x11 := by
  rw [head_array, h0, h1, h2, h3, h4, h5, h6, h7, h8, h9, h10, h11]

/-- What the program leaves at image `b` and class `l`. -/
theorem result_at (x : Vec Ideal S64x3x224x224 .f32) (hx : m ((c : Thread nD τ).loc main_arg0) = x) (w : Vec Ideal S64x3x3x3 .f32)
    (hw : m ((c : Thread nD τ).loc main_arg1) = w) (y : Vec Ideal S64 .f32) (hy : m ((c : Thread nD τ).loc main_arg2) = y)
    (Wt : Vec Ideal S4x128 .f32) (hWt : m ((c : Thread nD τ).loc main_arg3) = Wt) (bt : Vec Ideal S128 .f32) (hbt : m ((c : Thread nD τ).loc main_arg4) = bt)
    (Wu : Vec Ideal S4x128 .f32) (hWu : m ((c : Thread nD τ).loc main_arg5) = Wu) (bu : Vec Ideal S128 .f32) (hbu : m ((c : Thread nD τ).loc main_arg6) = bu)
    (Wg : Vec Ideal S256x128 .f32) (hWg : m ((c : Thread nD τ).loc main_arg7) = Wg) (bg : Vec Ideal S128 .f32) (hbg : m ((c : Thread nD τ).loc main_arg8) = bg)
    (Wc : Vec Ideal S128x50 .f32) (hWc : m ((c : Thread nD τ).loc main_arg9) = Wc) (bc : Vec Ideal S50 .f32) (hbc : m ((c : Thread nD τ).loc main_arg10) = bc)
    (b : Fin 64) (l : Fin 50) :
    (W13 m ρ c (Proc.devRef .tc main_v54) : Vec Ideal S64x50 .f32) (ix2 b l)
      = head (fun i d => poolSum (fun i' y' z' => x (ix4 b i' y' z')) (fun i' kh kw => w (ix4 ⟨i.1 * 4 + d.1, by omega⟩ i' kh kw)) (y (ix1 ⟨i.1 * 4 + d.1, by omega⟩)) * ((50176⁻¹ : ℝ) : EReal))
          (fun d k => Wt (ix2 d k)) (fun k => bt (ix1 k)) (fun d k => Wu (ix2 d k)) (fun k => bu (ix1 k)) (fun k o => Wg (ix2 k o)) (fun o => bg (ix1 o))
          (fun o => Wc (ix2 o l)) (bc (ix1 l)) := by
  have h0 : (W13 m ρ c (Proc.devRef .tc main_v54) : Vec Ideal S64x50 .f32)
      = k1_pay1 (k1_pay2 (nodes (pooled x (fun o i kh kw => w (ix4 o i kh kw)) (fun o => y (ix1 o)))) (kron above eye) Wt (shapeCast S1x128 bt shapeCasts_S128_S1x128) (kron below eye)
          Wu (shapeCast S1x128 bu shapeCasts_S128_S1x128) (kron above eye) Wg) (k1_pay3 (shapeCast S1x128 bg shapeCasts_S128_S1x128)) (kronRow sixteenths eye) Wc
          (shapeCast S1x50 bc shapeCasts_S50_S1x50) := by
    refine (W13_arr m ρ c 12).trans (head_array_of (V12 m ρ) c ?_ ?_ ?_ ?_ ?_ ?_ ?_ ?_ ?_ ?_ ?_ ?_)
    · exact (entry_nodes m ρ c).trans (congrArg nodes (pooled_array m ρ c x hx w hw y hy))
    · exact entry_above m ρ c
    · exact entry_below m ρ c
    · exact entry_mean m ρ c
    · exact (W12_args m ρ c main_arg3 (by decide)).trans hWt
    · exact (entry_bias_td m ρ c).trans (congrArg (shapeCast S1x128 · shapeCasts_S128_S1x128) hbt)
    · exact (W12_args m ρ c main_arg5 (by decide)).trans hWu
    · exact (entry_bias_bu m ρ c).trans (congrArg (shapeCast S1x128 · shapeCasts_S128_S1x128) hbu)
    · exact (W12_args m ρ c main_arg7 (by decide)).trans hWg
    · exact (entry_bias_two m ρ c).trans (congrArg (shapeCast S1x128 · shapeCasts_S128_S1x128) hbg)
    · exact (W12_args m ρ c main_arg9 (by decide)).trans hWc
    · exact (entry_bias_out m ρ c).trans (congrArg (shapeCast S1x50 · shapeCasts_S50_S1x50) hbc)
  rw [h0, head_at _ _ _ _ _ _ _ _ _ b l _ (fun i d => pool_nonneg (fun i' y' z' => x (ix4 b i' y' z')) (fun i' kh kw => w (ix4 ⟨i.1 * 4 + d.1, by omega⟩ i' kh kw)) (y (ix1 ⟨i.1 * 4 + d.1, by omega⟩)))
    (fun i d => nodes_at _ i b d _ rfl ⟨i.1 * 4 + d.1, by omega⟩ rfl)]
  have hr : ∀ (v : Vec Ideal S128 .f32) (k : Fin 128), shapeCast S1x128 v shapeCasts_S128_S1x128 (ix2 0 k) = v (ix1 k) := by
    intro v k; pointwise
  have hc : ∀ (v : Vec Ideal S50 .f32) (k : Fin 50), shapeCast S1x50 v shapeCasts_S50_S1x50 (ix2 0 k) = v (ix1 k) := by
    intro v k; pointwise
  simp only [hr, hc]

end Cert.KernelIdeal.Graph

end
-- ==== Proof.RefGraph.lean ====
/- The reference's graph operations by name: the words of the edges' ends, averaging over the edges, a layer, the second
   layer, and the mean over an image. -/
module

public import proofs.«01_k».proof.Proof.RefRun
public import Idealize.ShloMosaic.Lib.Pointwise

@[expose] public section

set_option maxRecDepth 16384

noncomputable section

namespace Cert.ReferenceIdeal.Graph

open Cert.ReferenceIdeal Cert.ReferenceIdeal.Gen Cert.ReferenceIdeal.Value
open Idealize.ShloMosaic Idealize.ShloMosaic.TcCoe Idealize.ShloMosaic.Tactic

variable {F : FTy → Type} [FloatOps F]

/-- The first node of each edge's image. -/
def starts : Vec F S7680 .i32 :=
  shapeCast _ (broadcastInDim S64x120 ![0] bcast_S64_S64x120_0 (muli (iotaInDim S64 32 0) (broadcastInDim S64 ![] bcast_S_S64 (constantI S_ 32 16#32)))) shapeCasts_S64x120_S7680
/-- The words of one end of the edges, from the table of the ends within an image. -/
def ends (t : Vec F S120 .i32) : Vec F S7680 .i32 :=
  addi (shapeCast _ (broadcastInDim S64x120 ![0, 1] bcast_S1x120_S64x120_0_1 (shapeCast _ t shapeCasts_S120_S1x120)) shapeCasts_S64x120_S7680) (starts (F := F))
/-- A word counted from the end when it is negative. -/
def wrapped (C : Vec F S7680 .i32) : Vec F S7680 .i32 :=
  select (cmpi .slt C (broadcastInDim S7680 ![] bcast_S_S7680 (constantI S_ 32 0#32))) (addi C (broadcastInDim S7680 ![] bcast_S_S7680 (constantI S_ 32 1024#32))) C
/-- Words as a column. -/
def column (R : Vec F S7680 .i32) : Vec F S7680x1 .i32 := broadcastInDim S7680x1 ![0] bcast_S7680_S7680x1_0 R
/-- How many edges each node has, and one where it has none. -/
def counts (R : Vec F S7680 .i32) : Vec F S1024 .f32 :=
  maximumf (broadcastInDim S1024 ![] bcast_S_S1024 (id (constant S_ .f32 0x3F800000#32))) (Host.scatterAdd scatter_S1024_S7680x1_S7680_n_0_0_1 (broadcastInDim S1024 ![] bcast_S_S1024 (constant S_ .f32 0x00000000#32)) (column (F := F) R) (broadcastInDim S7680 ![] bcast_S_S7680 (constant S_ .f32 0x3F800000#32)))
/-- The mean over each node's edges of the rows at their other ends, four features. -/
def mean4 (h : Vec F S1024x4 .f32) (R C : Vec F S7680 .i32) : Vec F S1024x4 .f32 :=
  Host.divf (Host.scatterAdd scatter_S1024x4_S7680x1_S7680x4_1_0_0_1 (broadcastInDim S1024x4 ![] bcast_S_S1024x4 (constant S_ .f32 0x00000000#32)) (column (F := F) R) (Host.gather gather_S1024x4_S7680x1_S7680x4_1_0_n_n_0_1_14 h (column (F := F) (wrapped (F := F) C))))
    (broadcastInDim S1024x4 ![0, 1] bcast_S1024x1_S1024x4_0_1 (broadcastInDim S1024x1 ![0] bcast_S1024_S1024x1_0 (counts R)))
/-- The same with 256 features. -/
def mean256 (h : Vec F S1024x256 .f32) (R C : Vec F S7680 .i32) : Vec F S1024x256 .f32 :=
  Host.divf (Host.scatterAdd scatter_S1024x256_S7680x1_S7680x256_1_0_0_1 (broadcastInDim S1024x256 ![] bcast_S_S1024x256 (constant S_ .f32 0x00000000#32)) (column (F := F) R) (Host.gather gather_S1024x256_S7680x1_S7680x256_1_0_n_n_0_1_1256 h (column (F := F) (wrapped (F := F) C))))
    (broadcastInDim S1024x256 ![0, 1] bcast_S1024x1_S1024x256_0_1 (broadcastInDim S1024x1 ![0] bcast_S1024_S1024x1_0 (counts R)))
/-- A bias on every row. -/
def biased (b : Vec F S128 .f32) : Vec F S1024x128 .f32 := broadcastInDim S1024x128 ![0, 1] bcast_S1x128_S1024x128_0_1 (broadcastInDim S1x128 ![1] bcast_S128_S1x128_1 b)
/-- The positive part. -/
def positive (x : Vec F S1024x128 .f32) : Vec F S1024x128 .f32 := maximumf x (broadcastInDim S1024x128 ![] bcast_S_S1024x128 (constant S_ .f32 0x00000000#32))
/-- A linear map of four features, with a bias, and its positive part. -/
def linear4 (x : Vec F S1024x4 .f32) (W : Vec F S4x128 .f32) (b : Vec F S128 .f32) : Vec F S1024x128 .f32 :=
  positive (addf (Host.dotGeneral dot_S1024x4_S4x128_S1024x128_1_0_0_1_n_n none x W) (biased b))
/-- A linear map of 256 features, with a bias. -/
def linear256 (x : Vec F S1024x256 .f32) (W : Vec F S256x128 .f32) (b : Vec F S128 .f32) : Vec F S1024x128 .f32 :=
  addf (Host.dotGeneral dot_S1024x256_S256x128_S1024x128_1_0_0_1_n_n none x W) (biased b)
/-- Two arrays side by side. -/
def joined (x y : Vec F S1024x128 .f32) : Vec F S1024x256 .f32 :=
  concatenate S1024x256 1 [⟨S1024x128, x⟩, ⟨S1024x128, y⟩] concatenates_S1024x128_S1024x128_S1024x256_d1
/-- The image each node belongs to. -/
def images : Vec F S1024 .i32 := shapeCast _ (broadcastInDim S64x16 ![0] bcast_S64_S64x16_0 (iotaInDim S64 32 0)) shapeCasts_S64x16_S1024
/-- Images as a column. -/
def imageColumn (R : Vec F S1024 .i32) : Vec F S1024x1 .i32 := broadcastInDim S1024x1 ![0] bcast_S1024_S1024x1_0 R
/-- How many nodes each image has, and one where it has none. -/
def sizes (R : Vec F S1024 .i32) : Vec F S64 .f32 :=
  maximumf (broadcastInDim S64 ![] bcast_S_S64 (id (constant S_ .f32 0x3F800000#32))) (Host.scatterAdd scatter_S64_S1024x1_S1024_n_0_0_1 (broadcastInDim S64 ![] bcast_S_S64 (constant S_ .f32 0x00000000#32)) (imageColumn (F := F) R) (broadcastInDim S1024 ![] bcast_S_S1024 (constant S_ .f32 0x3F800000#32)))
/-- The mean of each image's rows. -/
def imageMean (x : Vec F S1024x128 .f32) (R : Vec F S1024 .i32) : Vec F S64x128 .f32 :=
  Host.divf (Host.scatterAdd scatter_S64x128_S1024x1_S1024x128_1_0_0_1 (broadcastInDim S64x128 ![] bcast_S_S64x128 (constant S_ .f32 0x00000000#32)) (imageColumn (F := F) R) x)
    (broadcastInDim S64x128 ![0, 1] bcast_S64x1_S64x128_0_1 (broadcastInDim S64x1 ![0] bcast_S64_S64x1_0 (sizes R)))
/-- The classifier's linear map, with its bias. -/
def classes (x : Vec F S64x128 .f32) (W : Vec F S128x50 .f32) (b : Vec F S50 .f32) : Vec F S64x50 .f32 :=
  addf (Host.dotGeneral dot_S64x128_S128x50_S64x50_1_0_0_1_n_n none x W) (broadcastInDim S64x50 ![0, 1] bcast_S1x50_S64x50_0_1 (broadcastInDim S1x50 ![1] bcast_S50_S1x50_1 b))

/-- The table of the edges' earlier nodes. -/
def firsts : Vec F S120 .i32 := fun i => lit0 (S120.rowMajor i)
/-- The table of the edges' later nodes. -/
def seconds : Vec F S120 .i32 := fun i => lit1 (S120.rowMajor i)

/-- The whole graph head: the two first layers side by side, the second layer, the mean over each image and the classifier. -/
def graphHead (h : Vec F S1024x4 .f32) (R C : Vec F S7680 .i32) (G : Vec F S1024 .i32) (Wt : Vec F S4x128 .f32) (bt : Vec F S128 .f32)
    (Wu : Vec F S4x128 .f32) (bu : Vec F S128 .f32) (Wg : Vec F S256x128 .f32) (bg : Vec F S128 .f32) (Wc : Vec F S128x50 .f32) (bc : Vec F S50 .f32) : Vec F S64x50 .f32 :=
  classes (imageMean (positive (linear256 (mean256 (joined (linear4 (mean4 h R C) Wt bt) (linear4 (mean4 h C R) Wu bu)) R C) Wg bg)) G) Wc bc

/-- The words of the earlier ends, as the reference forms them. -/
theorem firsts_eq (V0 : Valuation τ sig (Elt F)) : res_main_v72 V0 = ends (F := F) (firsts (F := F)) := rfl
/-- The words of the later ends, as the reference forms them. -/
theorem seconds_eq (V0 : Valuation τ sig (Elt F)) : res_main_v76 V0 = ends (F := F) (seconds (F := F)) := rfl
/-- The images, as the reference forms them. -/
theorem images_eq (V0 : Valuation τ sig (Elt F)) : res_main_v149 V0 = images (F := F) := rfl
/-- The second layer before its positive part, as the reference forms it. -/
theorem second_eq (V0 : Valuation τ sig (Elt F)) :
    res_main_v145 V0 = linear256 (mean256 (joined (linear4 (mean4 (res_main_v63 V0) (res_main_v72 V0) (res_main_v76 V0)) (V0 (Proc.devRef .tc main_arg3)) (V0 (Proc.devRef .tc main_arg4)))
      (linear4 (mean4 (res_main_v63 V0) (res_main_v76 V0) (res_main_v72 V0)) (V0 (Proc.devRef .tc main_arg5)) (V0 (Proc.devRef .tc main_arg6)))) (res_main_v72 V0) (res_main_v76 V0))
      (V0 (Proc.devRef .tc main_arg7)) (V0 (Proc.devRef .tc main_arg8)) := rfl

end Cert.ReferenceIdeal.Graph

end
-- ==== Proof.Scatter.lean ====
/- Adding rows into an array at row numbers held as words: what a row, or an entry, of the result is as a sum over the
   additions. -/
module

public import Idealize.ShloMosaic.Lib.Pointwise
public import Idealize.ShloMosaic.PureOps.Ideal

@[expose] public section

set_option maxRecDepth 16384

noncomputable section

namespace Cert.Scatter

open Idealize.ShloMosaic

/-- The shape of `n` numbers. -/
abbrev line (n : Nat) : Shape := ⟨1, ![n]⟩
/-- The shape of `n` rows of `k` numbers. -/
abbrev grid (n k : Nat) : Shape := ⟨2, ![n, k]⟩

/-- Entry `(e, k)` of the rows added lands at `(n, c)` exactly when row `e`'s word is `n` and the columns agree. -/
theorem lands_row {N K E : Nat} (d : ScatterDims (grid N K) (grid E 1) (grid E K)) (hu : d.updateWindowDims = [1])
    (hiw : d.insertedWindowDims = [0]) (hsd : d.scatterDimsToOperandDims = [0]) (hivd : d.indexVectorDim = 1)
    (idx : IVec (grid E 1) 32) (e : Fin E) (k c : Fin K) (n : Fin N) :
    d.resultIdx? (ix2 e k) idx = some (ix2 n c) ↔ (idx (ix2 e (0 : Fin 1))).toInt = (n.val : Int) ∧ k = c := by
  obtain ⟨uw, iw, sd, iv, wf⟩ := d
  dsimp only at hu hiw hsd hivd
  subst hu hiw hsd hivd
  generalize hd : (⟨[1], [0], [0], 1, wf⟩ : ScatterDims (grid N K) (grid E 1) (grid E K)) = d
  have hw0 : d.window (ix2 e k) 0 = 0 := by subst hd; rfl
  have hw1 : d.window (ix2 e k) 1 = k.val := by subst hd; rfl
  have hs1 : d.start (ix2 e k) idx 1 = 0 := by subst hd; rfl
  have hs0 : d.start (ix2 e k) idx 0 = (idx (ix2 e (0 : Fin 1))).toInt := by
    subst hd
    refine congrArg (fun j => (idx j).toInt) (funext fun b => ?_)
    match b with
    | ⟨0, _⟩ => rfl
    | ⟨1, _⟩ => rfl
  have hn := n.isLt
  have hk := k.isLt
  unfold ScatterDims.resultIdx?
  split
  · next h =>
    constructor
    · intro q
      have q0 := congrArg Fin.val (congrFun (Option.some.inj q) 0)
      have q1 := congrArg Fin.val (congrFun (Option.some.inj q) 1)
      have h0 := (h 0).1
      change (d.start (ix2 e k) idx 0 + (d.window (ix2 e k) 0 : Int)).toNat = n.val at q0
      change (d.start (ix2 e k) idx 1 + (d.window (ix2 e k) 1 : Int)).toNat = c.val at q1
      rw [hs0, hw0] at q0 h0
      rw [hs1, hw1] at q1
      exact ⟨by omega, Fin.ext (by omega)⟩
    · rintro ⟨q0, rfl⟩
      refine congrArg some (funext fun a => Fin.ext ?_)
      match a with
      | ⟨0, _⟩ =>
        show (d.start (ix2 e k) idx 0 + (d.window (ix2 e k) 0 : Int)).toNat = n.val
        rw [hs0, hw0]; omega
      | ⟨1, _⟩ =>
        show (d.start (ix2 e k) idx 1 + (d.window (ix2 e k) 1 : Int)).toNat = k.val
        rw [hs1, hw1]; omega
  · next h =>
    refine ⟨fun q => (Option.some_ne_none _ q.symm).elim, ?_⟩
    rintro ⟨q0, rfl⟩
    refine (h fun a => ?_).elim
    match a with
    | ⟨0, _⟩ =>
      show 0 ≤ d.start (ix2 e k) idx 0 + (d.window (ix2 e k) 0 : Int) ∧ d.start (ix2 e k) idx 0 + (d.window (ix2 e k) 0 : Int) < (N : Int)
      rw [hs0, hw0]; omega
    | ⟨1, _⟩ =>
      show 0 ≤ d.start (ix2 e k) idx 1 + (d.window (ix2 e k) 1 : Int) ∧ d.start (ix2 e k) idx 1 + (d.window (ix2 e k) 1 : Int) < (K : Int)
      rw [hs1, hw1]; omega

/-- Number `e` of those added lands at `n` exactly when its word is `n`. -/
theorem lands_one {N E : Nat} (d : ScatterDims (line N) (grid E 1) (line E)) (hu : d.updateWindowDims = [])
    (hiw : d.insertedWindowDims = [0]) (hsd : d.scatterDimsToOperandDims = [0]) (hivd : d.indexVectorDim = 1)
    (idx : IVec (grid E 1) 32) (e : Fin E) (n : Fin N) :
    d.resultIdx? (ix1 e) idx = some (ix1 n) ↔ (idx (ix2 e (0 : Fin 1))).toInt = (n.val : Int) := by
  obtain ⟨uw, iw, sd, iv, wf⟩ := d
  dsimp only at hu hiw hsd hivd
  subst hu hiw hsd hivd
  generalize hd : (⟨[], [0], [0], 1, wf⟩ : ScatterDims (line N) (grid E 1) (line E)) = d
  have hw0 : d.window (ix1 e) 0 = 0 := by subst hd; rfl
  have hs0 : d.start (ix1 e) idx 0 = (idx (ix2 e (0 : Fin 1))).toInt := by
    subst hd
    refine congrArg (fun j => (idx j).toInt) (funext fun b => ?_)
    match b with
    | ⟨0, _⟩ => rfl
    | ⟨1, _⟩ => rfl
  have hn := n.isLt
  unfold ScatterDims.resultIdx?
  split
  · next h =>
    constructor
    · intro q
      have q0 := congrArg Fin.val (congrFun (Option.some.inj q) 0)
      have h0 := (h 0).1
      change (d.start (ix1 e) idx 0 + (d.window (ix1 e) 0 : Int)).toNat = n.val at q0
      rw [hs0, hw0] at q0 h0
      omega
    · intro q0
      refine congrArg some (funext fun a => Fin.ext ?_)
      match a with
      | ⟨0, _⟩ =>
        show (d.start (ix1 e) idx 0 + (d.window (ix1 e) 0 : Int)).toNat = n.val
        rw [hs0, hw0]; omega
  · next h =>
    refine ⟨fun q => (Option.some_ne_none _ q.symm).elim, ?_⟩
    intro q0
    refine (h fun a => ?_).elim
    match a with
    | ⟨0, _⟩ =>
      show 0 ≤ d.start (ix1 e) idx 0 + (d.window (ix1 e) 0 : Int) ∧ d.start (ix1 e) idx 0 + (d.window (ix1 e) 0 : Int) < (N : Int)
      rw [hs0, hw0]; omega

/-- Rows added into an array: entry `(n, c)` is the array's, and the sum over the rows whose word is `n` of their entry `c`. -/
theorem rows_at {N K E : Nat} (d : ScatterDims (grid N K) (grid E 1) (grid E K)) (hu : d.updateWindowDims = [1])
    (hiw : d.insertedWindowDims = [0]) (hsd : d.scatterDimsToOperandDims = [0]) (hivd : d.indexVectorDim = 1)
    (x : FVec Ideal (grid N K) .f32) (idx : IVec (grid E 1) 32) (upd : FVec Ideal (grid E K) .f32) (n : Fin N) (c : Fin K) :
    (Host.scatterAdd d x idx upd : FVec Ideal (grid N K) .f32) (ix2 n c)
      = (x (ix2 n c) + ∑ e : Fin E, if (idx (ix2 e (0 : Fin 1)) : BitVec 32).toInt = (n.val : Int) then upd (ix2 e c) else (0 : EReal) : EReal) := by
  change (x (ix2 n c) + ∑ j ∈ Finset.univ.filter (fun j => d.resultIdx? j idx = some (ix2 n c)), upd j : EReal) = _
  refine congrArg (fun t : EReal => (x (ix2 n c) + t : EReal)) ?_
  rw [Finset.sum_filter, sum_idx2]
  refine Finset.sum_congr rfl fun e _ => ?_
  simp only [lands_row d hu hiw hsd hivd]
  by_cases h : (idx (ix2 e (0 : Fin 1)) : BitVec 32).toInt = (n.val : Int)
  · simp [h]
  · simp [h]

/-- Numbers added into a line: entry `n` is the line's, and the sum of the numbers whose word is `n`. -/
theorem ones_at {N E : Nat} (d : ScatterDims (line N) (grid E 1) (line E)) (hu : d.updateWindowDims = [])
    (hiw : d.insertedWindowDims = [0]) (hsd : d.scatterDimsToOperandDims = [0]) (hivd : d.indexVectorDim = 1)
    (x : FVec Ideal (line N) .f32) (idx : IVec (grid E 1) 32) (upd : FVec Ideal (line E) .f32) (n : Fin N) :
    (Host.scatterAdd d x idx upd : FVec Ideal (line N) .f32) (ix1 n)
      = (x (ix1 n) + ∑ e : Fin E, if (idx (ix2 e (0 : Fin 1)) : BitVec 32).toInt = (n.val : Int) then upd (ix1 e) else (0 : EReal) : EReal) := by
  change (x (ix1 n) + ∑ j ∈ Finset.univ.filter (fun j => d.resultIdx? j idx = some (ix1 n)), upd j : EReal) = _
  refine congrArg (fun t : EReal => (x (ix1 n) + t : EReal)) ?_
  rw [Finset.sum_filter, sum_idx1]
  refine Finset.sum_congr rfl fun e _ => ?_
  simp only [lands_one d hu hiw hsd hivd]

end Cert.Scatter

end
-- ==== Proof.Edges.lean ====
/- The edges of the graph: of the sixteen nodes of an image, each pair of an earlier and a later one is an edge; sums over
   the list of the edges are sums over the nodes at the other end. -/
module

public import proofs.«01_k».proof.Proof.GraphMath
public import proofs.«01_k».proof.ReferenceIdeal

@[expose] public section

set_option maxRecDepth 16384

noncomputable section

namespace Cert.Edges

open Cert.Math

/-- When the listed pairs `(r k, c k)` are those with `q`, each once, at place `p`, the sum over the pairs starting at `i` is
    the sum over the nodes `j` with `q i j`. -/
theorem pair_sum (r c : Fin 120 → Fin 16) (q : Fin 16 → Fin 16 → Prop) [∀ i j, Decidable (q i j)] (p : Fin 16 → Fin 16 → Fin 120)
    (h1 : ∀ i j, q i j → r (p i j) = i ∧ c (p i j) = j) (h2 : ∀ k, q (r k) (c k) ∧ p (r k) (c k) = k)
    (g : Fin 16 → EReal) (i : Fin 16) :
    (∑ k : Fin 120, if r k = i then g (c k) else (0 : EReal)) = ∑ j : Fin 16, if q i j then g j else (0 : EReal) := by
  have hiff : ∀ k j, (r k = i ∧ c k = j) ↔ (q i j ∧ k = p i j) := fun k j => by
    constructor
    · rintro ⟨rfl, rfl⟩; exact ⟨(h2 k).1, (h2 k).2.symm⟩
    · rintro ⟨hq, rfl⟩; exact h1 i j hq
  have step : ∀ k, (if r k = i then g (c k) else (0 : EReal)) = ∑ j : Fin 16, if (r k = i ∧ c k = j) then g j else (0 : EReal) := fun k => by
    by_cases h : r k = i
    · simp [h]
    · simp [h]
  rw [Finset.sum_congr rfl fun k _ => step k, Finset.sum_comm]
  refine Finset.sum_congr rfl fun j _ => ?_
  simp only [hiff]
  by_cases h : q i j
  · simp [h]
  · simp [h]

/-- Over all images, the edges whose first end is node `i` of image `b` are that image's. -/
theorem image_sum (r : Fin 120 → Fin 16) (R : Fin 7680 → ℤ)
    (hR : ∀ (b : Fin 64) (k : Fin 120), R ⟨b.1 * 120 + k.1, by omega⟩ = ((b.1 * 16 + (r k).1 : ℕ) : ℤ))
    (f : Fin 7680 → EReal) (b : Fin 64) (i : Fin 16) :
    (∑ e : Fin 7680, if R e = ((b.1 * 16 + i.1 : ℕ) : ℤ) then f e else (0 : EReal))
      = ∑ k : Fin 120, if r k = i then f ⟨b.1 * 120 + k.1, by omega⟩ else (0 : EReal) := by
  have hm := sum_mul 64 120 (fun e : Fin 7680 => if R e = ((b.1 * 16 + i.1 : ℕ) : ℤ) then f e else (0 : EReal))
  refine hm.trans ?_
  rw [Finset.sum_eq_single b]
  · refine Finset.sum_congr rfl fun k _ => ?_
    rw [hR b k]
    have hr := (r k).isLt
    by_cases h : r k = i
    · rw [if_pos h, if_pos (by rw [h])]
    · rw [if_neg h, if_neg (fun q => h (Fin.ext (by omega)))]
  · intro b' _ hb
    refine Finset.sum_eq_zero fun k _ => ?_
    rw [hR b' k]
    have hr := (r k).isLt
    rw [if_neg (fun q => hb (Fin.ext (by omega)))]
  · intro h; exact (h (Finset.mem_univ b)).elim

/-- The earlier node of each edge of an image. -/
def first (k : Fin 120) : Fin 16 := ⟨(Cert.ReferenceIdeal.lit0 k).toNat % 16, Nat.mod_lt _ (by decide)⟩
/-- The later node of each edge of an image. -/
def second (k : Fin 120) : Fin 16 := ⟨(Cert.ReferenceIdeal.lit1 k).toNat % 16, Nat.mod_lt _ (by decide)⟩
/-- Where the edge from `i` to a later `j` stands in the list. -/
def place (i j : Fin 16) : Fin 120 := ⟨(i.1 * (31 - i.1) / 2 + (j.1 - i.1 - 1)) % 120, Nat.mod_lt _ (by decide)⟩

/-- The word listed for an edge's earlier node is the node's number. -/
theorem first_word : ∀ k : Fin 120, Cert.ReferenceIdeal.lit0 k = BitVec.ofNat 32 (first k).1 := by decide +kernel
/-- The word listed for an edge's later node is the node's number. -/
theorem second_word : ∀ k : Fin 120, Cert.ReferenceIdeal.lit1 k = BitVec.ofNat 32 (second k).1 := by decide +kernel
/-- Every pair of an earlier and a later node is listed where `place` says. -/
theorem listed : ∀ i j : Fin 16, i.1 < j.1 → first (place i j) = i ∧ second (place i j) = j := by decide +kernel
/-- Every listed pair is one of an earlier and a later node, at its place. -/
theorem ordered : ∀ k : Fin 120, (first k).1 < (second k).1 ∧ place (first k) (second k) = k := by decide +kernel

/-- The edges leaving node `i` forwards reach the later nodes. -/
theorem later_sum (g : Fin 16 → EReal) (i : Fin 16) :
    (∑ k : Fin 120, if first k = i then g (second k) else (0 : EReal)) = ∑ j : Fin 16, if i.1 < j.1 then g j else (0 : EReal) :=
  pair_sum first second (fun i j => i.1 < j.1) place listed ordered g i

/-- The edges leaving node `i` backwards reach the earlier nodes. -/
theorem earlier_sum (g : Fin 16 → EReal) (i : Fin 16) :
    (∑ k : Fin 120, if second k = i then g (first k) else (0 : EReal)) = ∑ j : Fin 16, if j.1 < i.1 then g j else (0 : EReal) :=
  pair_sum second first (fun i j => j.1 < i.1) (fun i j => place j i) (fun i j h => (listed j i h).symm) (fun k => ordered k) g i

/-- How many of the sixteen nodes satisfy a condition, as a sum of ones. -/
theorem ones_sum (q : Fin 16 → Prop) [DecidablePred q] :
    (∑ j : Fin 16, if q j then (1 : EReal) else 0) = (((Finset.univ.filter q).card : ℝ) : EReal) := by
  rw [Finset.sum_boole]; rfl

/-- Node `i` has `15 - i` later nodes. -/
theorem later_card : ∀ i : Fin 16, (Finset.univ.filter (fun j : Fin 16 => i.1 < j.1)).card = 15 - i.1 := by decide +kernel
/-- Node `i` has `i` earlier nodes. -/
theorem earlier_card : ∀ i : Fin 16, (Finset.univ.filter (fun j : Fin 16 => j.1 < i.1)).card = i.1 := by decide +kernel

end Cert.Edges

end
-- ==== Proof.RefHead.lean ====
/- The value of the reference's graph head: each image's sixteen nodes go through the two first layers, the second layer,
   the mean and the classifier. -/
module

public import proofs.«01_k».proof.Proof.RefGraph
public import proofs.«01_k».proof.Proof.Scatter
public import proofs.«01_k».proof.Proof.Edges
public import Idealize.ShloMosaic.Lib.Routing.Ops

@[expose] public section

set_option maxRecDepth 16384

noncomputable section

namespace Cert.ReferenceIdeal.Graph

open Cert.ReferenceIdeal Cert.ReferenceIdeal.Gen Cert.ReferenceIdeal.Value
open Idealize.ShloMosaic Idealize.ShloMosaic.TcCoe Idealize.ShloMosaic.Tactic
open Cert.Math

/-- Node `i` of image `b`. -/
def node (b : Fin 64) (i : Fin 16) : Fin 1024 := ⟨b.1 * 16 + i.1, by omega⟩
/-- Edge `k` of image `b`. -/
def edge (b : Fin 64) (k : Fin 120) : Fin 7680 := ⟨b.1 * 120 + k.1, by omega⟩

/-- The words `R` name the nodes `r` of the edges, image by image. -/
def Names (R : Vec Ideal S7680 .i32) (r : Fin 120 → Fin 16) : Prop :=
  ∀ (b : Fin 64) (k : Fin 120), R (ix1 (edge b k)) = BitVec.ofNat 32 (node b (r k)).1

/-- A small word's value, read with its sign. -/
theorem toInt_small (n : Nat) (h : n < 2 ^ 31) : (BitVec.ofNat 32 n).toInt = (n : ℤ) := by
  rw [BitVec.toInt_eq_toNat_cond, BitVec.toNat_ofNat]; split <;> omega

/-- A table of nodes within an image names them in every image. -/
theorem names_ends (t : Vec Ideal S120 .i32) (r : Fin 120 → Fin 16) (h : ∀ k, t (ix1 k) = BitVec.ofNat 32 (r k).1) :
    Names (ends (F := Ideal) t) r := by
  intro b k
  have hi : ∀ p, (⟨(edge b k).1 % 120, p⟩ : Fin 120) = k := fun p => Fin.ext (by dsimp only [edge]; omega)
  have hb : (edge b k).1 / 120 = b.1 := by dsimp only [edge]; omega
  generalize edge b k = e at hi hb
  pointwise [ends, starts]
  rw [hi, hb, h]
  show BitVec.ofNat 32 (r k).1 + BitVec.ofNat 32 b.1 * 16#32 = BitVec.ofNat 32 (b.1 * 16 + (r k).1)
  apply BitVec.eq_of_toNat_eq
  simp only [BitVec.toNat_add, BitVec.toNat_mul, BitVec.toNat_ofNat]
  omega

/-- The earlier ends. -/
theorem names_firsts : Names (ends (F := Ideal) (firsts (F := Ideal))) Cert.Edges.first :=
  names_ends _ _ fun k => (congrArg lit0 (Fin.ext (Shape.rowMajor_val_one _) : S120.rowMajor (ix1 k) = k)).trans (Cert.Edges.first_word k)
/-- The later ends. -/
theorem names_seconds : Names (ends (F := Ideal) (seconds (F := Ideal))) Cert.Edges.second :=
  names_ends _ _ fun k => (congrArg lit1 (Fin.ext (Shape.rowMajor_val_one _) : S120.rowMajor (ix1 k) = k)).trans (Cert.Edges.second_word k)

/-- A word that names a node is not negative, so it is not counted from the end. -/
theorem wrapped_at (C : Vec Ideal S7680 .i32) (e : Fin 7680) (n : Nat) (hn : n < 1024) (h : C (ix1 e) = BitVec.ofNat 32 n) :
    (wrapped (F := Ideal) C : Vec Ideal S7680 .i32) (ix1 e) = BitVec.ofNat 32 n := by
  pointwise [wrapped]
  rw [h]
  have : IntOp.cmpi .slt (BitVec.ofNat 32 n) 0#32 = 0#1 := by
    show BitVec.ofBool ((BitVec.ofNat 32 n).slt 0#32) = 0#1
    rw [show (BitVec.ofNat 32 n).slt 0#32 = false from by
      rw [BitVec.slt, toInt_small n (by omega)]; simp]
    rfl
  rw [this]
  rfl

/-- The words as a column. -/
theorem column_at (R : Vec Ideal S7680 .i32) (e : Fin 7680) : (column (F := Ideal) R : Vec Ideal S7680x1 .i32) (ix2 e 0) = R (ix1 e) := by
  pointwise [column]

/-- Summing over all edges that start at a node: those of its image. -/
theorem edges_at (R : Vec Ideal S7680 .i32) (r : Fin 120 → Fin 16) (hR : Names R r) (f : Fin 7680 → EReal) (b : Fin 64) (i : Fin 16) :
    (∑ e : Fin 7680, if ((column (F := Ideal) R : Vec Ideal S7680x1 .i32) (ix2 e (0 : Fin 1)) : BitVec 32).toInt = ((node b i).1 : ℤ) then f e else (0 : EReal))
      = ∑ k : Fin 120, if r k = i then f (edge b k) else (0 : EReal) := by
  refine Cert.Edges.image_sum r (fun e => ((column (F := Ideal) R : Vec Ideal S7680x1 .i32) (ix2 e (0 : Fin 1)) : BitVec 32).toInt) (fun b k => ?_) f b i
  rw [column_at]
  refine (congrArg BitVec.toInt (hR b k)).trans (toInt_small _ ?_)
  have := (node b (r k)).2
  omega

/-- A node's number of edges, at least one. -/
theorem counts_at (R : Vec Ideal S7680 .i32) (r : Fin 120 → Fin 16) (hR : Names R r) (q : Fin 16 → Prop) [DecidablePred q] (i : Fin 16)
    (hq : (∑ k : Fin 120, if r k = i then (1 : EReal) else 0) = ∑ j : Fin 16, if q j then (1 : EReal) else 0) (b : Fin 64) :
    (counts (F := Ideal) R : Vec Ideal S1024 .f32) (ix1 (node b i))
      = (((max (Finset.univ.filter q).card 1 : ℕ) : ℝ) : EReal) := by
  have h1 := Cert.Scatter.ones_at scatter_S1024_S7680x1_S7680_n_0_0_1 rfl rfl rfl rfl
    (broadcastInDim S1024 ![] bcast_S_S1024 (constant (F := Ideal) S_ .f32 0x00000000#32)) (column (F := Ideal) R)
    (broadcastInDim S7680 ![] bcast_S_S7680 (constant (F := Ideal) S_ .f32 0x3F800000#32)) (node b i)
  have h2 := edges_at R r hR (fun e => (broadcastInDim S7680 ![] bcast_S_S7680 (constant (F := Ideal) S_ .f32 0x3F800000#32) : Vec Ideal S7680 .f32) (ix1 e)) b i
  rw [h2] at h1
  have h3 : ∀ e : Fin 7680, (broadcastInDim S7680 ![] bcast_S_S7680 (constant (F := Ideal) S_ .f32 0x3F800000#32) : Vec Ideal S7680 .f32) (ix1 e) = (1 : EReal) := fun e => by
    pointwise
  have h4 : (broadcastInDim S1024 ![] bcast_S_S1024 (constant (F := Ideal) S_ .f32 0x00000000#32) : Vec Ideal S1024 .f32) (ix1 (node b i)) = (0 : EReal) := by
    pointwise
  simp only [h3] at h1
  rw [h4, zero_add, hq, Cert.Edges.ones_sum] at h1
  unfold counts
  generalize Host.scatterAdd (F := Ideal) (φ := FTy.f32) scatter_S1024_S7680x1_S7680_n_0_0_1 _ _ _ = s at h1 ⊢
  pointwise
  rw [h1]
  show max (Ideal.ofBits .f32 0x3F800000#32) _ = _
  rw [Ideal.ofBits_one_f32, Nat.cast_max, Nat.cast_one, max_comm, EReal.coe_strictMono.monotone.map_max, EReal.coe_one]

/-- The mean over a node's edges, four features: the sum over the nodes at the other ends, times one over their number. -/
theorem mean4_at (h : Vec Ideal S1024x4 .f32) (R C : Vec Ideal S7680 .i32) (r c : Fin 120 → Fin 16) (hR : Names R r) (hC : Names C c)
    (q : Fin 16 → Prop) [DecidablePred q] (i : Fin 16)
    (hq : ∀ g : Fin 16 → EReal, (∑ k : Fin 120, if r k = i then g (c k) else (0 : EReal)) = ∑ j : Fin 16, if q j then g j else (0 : EReal)) (b : Fin 64) (d : Fin 4) :
    (mean4 (F := Ideal) h R C : Vec Ideal S1024x4 .f32) (ix2 (node b i) d)
      = (∑ j : Fin 16, if q j then h (ix2 (node b j) d) else (0 : EReal)) * (((((max (Finset.univ.filter q).card 1 : ℕ) : ℝ)⁻¹ : ℝ)) : EReal) := by
  have hc := counts_at R r hR q i (hq fun _ => 1) b
  have h1 := Cert.Scatter.rows_at scatter_S1024x4_S7680x1_S7680x4_1_0_0_1 rfl rfl rfl rfl
    (broadcastInDim S1024x4 ![] bcast_S_S1024x4 (constant (F := Ideal) S_ .f32 0x00000000#32)) (column (F := Ideal) R)
    (Host.gather gather_S1024x4_S7680x1_S7680x4_1_0_n_n_0_1_14 h (column (F := Ideal) (wrapped (F := Ideal) C))) (node b i) d
  have h2 := edges_at R r hR (fun e => (Host.gather gather_S1024x4_S7680x1_S7680x4_1_0_n_n_0_1_14 h (column (F := Ideal) (wrapped (F := Ideal) C)) : Vec Ideal S7680x4 .f32) (ix2 e d)) b i
  rw [h2] at h1
  have h3 : ∀ k : Fin 120, (Host.gather gather_S1024x4_S7680x1_S7680x4_1_0_n_n_0_1_14 h (column (F := Ideal) (wrapped (F := Ideal) C)) : Vec Ideal S7680x4 .f32) (ix2 (edge b k) d) = h (ix2 (node b (c k)) d) := fun k => by
    refine Routing.gather_row gather_S1024x4_S7680x1_S7680x4_1_0_n_n_0_1_14 rfl rfl rfl rfl rfl h (column (F := Ideal) (wrapped (F := Ideal) C)) (edge b k) d (node b (c k)) ?_ (by decide)
    exact (column_at _ _).trans (wrapped_at C (edge b k) _ (node b (c k)).2 (hC b k))
  have h4 : (broadcastInDim S1024x4 ![] bcast_S_S1024x4 (constant (F := Ideal) S_ .f32 0x00000000#32) : Vec Ideal S1024x4 .f32) (ix2 (node b i) d) = (0 : EReal) := by
    pointwise
  simp only [h3] at h1
  rw [h4, zero_add, hq fun j => h (ix2 (node b j) d)] at h1
  unfold mean4
  generalize counts (F := Ideal) R = s at hc ⊢
  generalize Host.scatterAdd (F := Ideal) (φ := FTy.f32) scatter_S1024x4_S7680x1_S7680x4_1_0_0_1 _ _ _ = t at h1 ⊢
  pointwise
  rw [h1, hc, Ideal.div_coe (by have := Nat.le_max_right (Finset.univ.filter q).card 1; exact_mod_cast (show max (Finset.univ.filter q).card 1 ≠ 0 by omega)), one_div]

/-- The same with 256 features. -/
theorem mean256_at (h : Vec Ideal S1024x256 .f32) (R C : Vec Ideal S7680 .i32) (r c : Fin 120 → Fin 16) (hR : Names R r) (hC : Names C c)
    (q : Fin 16 → Prop) [DecidablePred q] (i : Fin 16)
    (hq : ∀ g : Fin 16 → EReal, (∑ k : Fin 120, if r k = i then g (c k) else (0 : EReal)) = ∑ j : Fin 16, if q j then g j else (0 : EReal)) (b : Fin 64) (d : Fin 256) :
    (mean256 (F := Ideal) h R C : Vec Ideal S1024x256 .f32) (ix2 (node b i) d)
      = (∑ j : Fin 16, if q j then h (ix2 (node b j) d) else (0 : EReal)) * (((((max (Finset.univ.filter q).card 1 : ℕ) : ℝ)⁻¹ : ℝ)) : EReal) := by
  have hc := counts_at R r hR q i (hq fun _ => 1) b
  have h1 := Cert.Scatter.rows_at scatter_S1024x256_S7680x1_S7680x256_1_0_0_1 rfl rfl rfl rfl
    (broadcastInDim S1024x256 ![] bcast_S_S1024x256 (constant (F := Ideal) S_ .f32 0x00000000#32)) (column (F := Ideal) R)
    (Host.gather gather_S1024x256_S7680x1_S7680x256_1_0_n_n_0_1_1256 h (column (F := Ideal) (wrapped (F := Ideal) C))) (node b i) d
  have h2 := edges_at R r hR (fun e => (Host.gather gather_S1024x256_S7680x1_S7680x256_1_0_n_n_0_1_1256 h (column (F := Ideal) (wrapped (F := Ideal) C)) : Vec Ideal S7680x256 .f32) (ix2 e d)) b i
  rw [h2] at h1
  have h3 : ∀ k : Fin 120, (Host.gather gather_S1024x256_S7680x1_S7680x256_1_0_n_n_0_1_1256 h (column (F := Ideal) (wrapped (F := Ideal) C)) : Vec Ideal S7680x256 .f32) (ix2 (edge b k) d) = h (ix2 (node b (c k)) d) := fun k => by
    refine Routing.gather_row gather_S1024x256_S7680x1_S7680x256_1_0_n_n_0_1_1256 rfl rfl rfl rfl rfl h (column (F := Ideal) (wrapped (F := Ideal) C)) (edge b k) d (node b (c k)) ?_ (by decide)
    exact (column_at _ _).trans (wrapped_at C (edge b k) _ (node b (c k)).2 (hC b k))
  have h4 : (broadcastInDim S1024x256 ![] bcast_S_S1024x256 (constant (F := Ideal) S_ .f32 0x00000000#32) : Vec Ideal S1024x256 .f32) (ix2 (node b i) d) = (0 : EReal) := by
    pointwise
  simp only [h3] at h1
  rw [h4, zero_add, hq fun j => h (ix2 (node b j) d)] at h1
  unfold mean256
  generalize counts (F := Ideal) R = s at hc ⊢
  generalize Host.scatterAdd (F := Ideal) (φ := FTy.f32) scatter_S1024x256_S7680x1_S7680x256_1_0_0_1 _ _ _ = t at h1 ⊢
  pointwise
  rw [h1, hc, Ideal.div_coe (by have := Nat.le_max_right (Finset.univ.filter q).card 1; exact_mod_cast (show max (Finset.univ.filter q).card 1 ≠ 0 by omega)), one_div]

/-- A linear map of four features, entry by entry. -/
theorem linear4_at (x : Vec Ideal S1024x4 .f32) (W : Vec Ideal S4x128 .f32) (b : Vec Ideal S128 .f32) (n : Fin 1024) (k : Fin 128) :
    (linear4 (F := Ideal) x W b : Vec Ideal S1024x128 .f32) (ix2 n k) = (max ((∑ d : Fin 4, x (ix2 n d) * W (ix2 d k) : EReal) + b (ix1 k)) 0 : EReal) := by
  pointwise [linear4, positive, biased]

/-- A linear map of 256 features and its positive part, entry by entry. -/
theorem linear256_at (x : Vec Ideal S1024x256 .f32) (W : Vec Ideal S256x128 .f32) (b : Vec Ideal S128 .f32) (n : Fin 1024) (k : Fin 128) :
    (positive (F := Ideal) (linear256 (F := Ideal) x W b) : Vec Ideal S1024x128 .f32) (ix2 n k) = (max ((∑ d : Fin 256, x (ix2 n d) * W (ix2 d k) : EReal) + b (ix1 k)) 0 : EReal) := by
  pointwise [linear256, positive, biased]

/-- Two arrays side by side, entry by entry. -/
theorem joined_at (x y : Vec Ideal S1024x128 .f32) (n : Fin 1024) (k : Fin 256) :
    (joined (F := Ideal) x y : Vec Ideal S1024x256 .f32) (ix2 n k) = if h : k.1 < 128 then x (ix2 n ⟨k.1, h⟩) else y (ix2 n ⟨k.1 - 128, by omega⟩) := by
  pointwise [joined]

/-- The first layer over the later nodes. -/
theorem later_at (h : Vec Ideal S1024x4 .f32) (R C : Vec Ideal S7680 .i32) (hR : Names R Cert.Edges.first) (hC : Names C Cert.Edges.second)
    (W : Vec Ideal S4x128 .f32) (b' : Vec Ideal S128 .f32) (b : Fin 64) (i : Fin 16) (k : Fin 128) :
    (linear4 (F := Ideal) (mean4 (F := Ideal) h R C) W b' : Vec Ideal S1024x128 .f32) (ix2 (node b i) k)
      = layer (fun j => i.1 < j.1) (late i) (fun j d => h (ix2 (node b j) d)) (fun d => W (ix2 d k)) (b' (ix1 k)) := by
  rw [linear4_at]
  simp only [mean4_at h R C _ _ hR hC (fun j => i.1 < j.1) i (fun g => Cert.Edges.later_sum g i), Cert.Edges.later_card]
  rfl

/-- The first layer over the earlier nodes. -/
theorem earlier_at (h : Vec Ideal S1024x4 .f32) (R C : Vec Ideal S7680 .i32) (hR : Names R Cert.Edges.second) (hC : Names C Cert.Edges.first)
    (W : Vec Ideal S4x128 .f32) (b' : Vec Ideal S128 .f32) (b : Fin 64) (i : Fin 16) (k : Fin 128) :
    (linear4 (F := Ideal) (mean4 (F := Ideal) h R C) W b' : Vec Ideal S1024x128 .f32) (ix2 (node b i) k)
      = layer (fun j => j.1 < i.1) (early i) (fun j d => h (ix2 (node b j) d)) (fun d => W (ix2 d k)) (b' (ix1 k)) := by
  rw [linear4_at]
  simp only [mean4_at h R C _ _ hR hC (fun j => j.1 < i.1) i (fun g => Cert.Edges.earlier_sum g i), Cert.Edges.earlier_card]
  rfl

/-- The second layer, over the later nodes. -/
theorem second_at (z : Vec Ideal S1024x256 .f32) (R C : Vec Ideal S7680 .i32) (hR : Names R Cert.Edges.first) (hC : Names C Cert.Edges.second)
    (W : Vec Ideal S256x128 .f32) (b' : Vec Ideal S128 .f32) (b : Fin 64) (i : Fin 16) (k : Fin 128) :
    (positive (F := Ideal) (linear256 (F := Ideal) (mean256 (F := Ideal) z R C) W b') : Vec Ideal S1024x128 .f32) (ix2 (node b i) k)
      = layer (fun j => i.1 < j.1) (late i) (fun j d => z (ix2 (node b j) d)) (fun d => W (ix2 d k)) (b' (ix1 k)) := by
  rw [linear256_at]
  simp only [mean256_at z R C _ _ hR hC (fun j => i.1 < j.1) i (fun g => Cert.Edges.later_sum g i), Cert.Edges.later_card]
  rfl

/-- A node's image. -/
theorem images_at (n : Fin 1024) : ((imageColumn (F := Ideal) (images (F := Ideal)) : Vec Ideal S1024x1 .i32) (ix2 n (0 : Fin 1)) : BitVec 32).toInt = ((n.1 / 16 : ℕ) : ℤ) := by
  have h : (imageColumn (F := Ideal) (images (F := Ideal)) : Vec Ideal S1024x1 .i32) (ix2 n 0) = BitVec.ofNat 32 (n.1 / 16) := by
    pointwise [imageColumn, images]
  exact (congrArg BitVec.toInt h).trans (toInt_small _ (by have := n.2; omega))

/-- Summing over all nodes of an image. -/
theorem nodes_sum (f : Fin 1024 → EReal) (b : Fin 64) :
    (∑ n : Fin 1024, if ((imageColumn (F := Ideal) (images (F := Ideal)) : Vec Ideal S1024x1 .i32) (ix2 n (0 : Fin 1)) : BitVec 32).toInt = (b.1 : ℤ) then f n else (0 : EReal))
      = ∑ i : Fin 16, f (node b i) := by
  simp only [images_at]
  refine (sum_mul 64 16 (fun n : Fin 1024 => if ((n.1 / 16 : ℕ) : ℤ) = (b.1 : ℤ) then f n else (0 : EReal))).trans ?_
  rw [Finset.sum_eq_single b]
  · exact Finset.sum_congr rfl fun i _ => if_pos (by dsimp only; omega)
  · intro b' _ hb
    exact Finset.sum_eq_zero fun i _ => if_neg (fun q => hb (Fin.ext (by dsimp only at q; omega)))
  · intro h; exact (h (Finset.mem_univ b)).elim

/-- Every image has sixteen nodes. -/
theorem sizes_at (b : Fin 64) : (sizes (F := Ideal) (images (F := Ideal)) : Vec Ideal S64 .f32) (ix1 b) = ((16 : ℝ) : EReal) := by
  have h1 := Cert.Scatter.ones_at scatter_S64_S1024x1_S1024_n_0_0_1 rfl rfl rfl rfl
    (broadcastInDim S64 ![] bcast_S_S64 (constant (F := Ideal) S_ .f32 0x00000000#32)) (imageColumn (F := Ideal) (images (F := Ideal)))
    (broadcastInDim S1024 ![] bcast_S_S1024 (constant (F := Ideal) S_ .f32 0x3F800000#32)) b
  have h2 := nodes_sum (fun n => (broadcastInDim S1024 ![] bcast_S_S1024 (constant (F := Ideal) S_ .f32 0x3F800000#32) : Vec Ideal S1024 .f32) (ix1 n)) b
  rw [h2] at h1
  have h3 : ∀ n : Fin 1024, (broadcastInDim S1024 ![] bcast_S_S1024 (constant (F := Ideal) S_ .f32 0x3F800000#32) : Vec Ideal S1024 .f32) (ix1 n) = (1 : EReal) := fun n => by
    pointwise
  have h4 : (broadcastInDim S64 ![] bcast_S_S64 (constant (F := Ideal) S_ .f32 0x00000000#32) : Vec Ideal S64 .f32) (ix1 b) = (0 : EReal) := by
    pointwise
  have h5 : (∑ _i : Fin 16, (1 : EReal)) = ((16 : ℝ) : EReal) := by
    have := Cert.Edges.ones_sum (fun _ => True)
    simp only [if_true] at this
    rw [this, show (Finset.univ.filter (fun _ : Fin 16 => True)).card = 16 from by decide]
    norm_num
  simp only [h3] at h1
  rw [h4, zero_add, h5] at h1
  unfold sizes
  generalize Host.scatterAdd (F := Ideal) (φ := FTy.f32) scatter_S64_S1024x1_S1024_n_0_0_1 _ _ _ = s at h1 ⊢
  pointwise
  rw [h1]
  show max (Ideal.ofBits .f32 0x3F800000#32) _ = _
  rw [Ideal.ofBits_one_f32]
  exact max_eq_right (by rw [← EReal.coe_one]; exact EReal.coe_le_coe_iff.2 (by norm_num))

/-- The mean of an image's rows. -/
theorem imageMean_at (x : Vec Ideal S1024x128 .f32) (b : Fin 64) (o : Fin 128) :
    (imageMean (F := Ideal) x (images (F := Ideal)) : Vec Ideal S64x128 .f32) (ix2 b o)
      = (∑ i : Fin 16, x (ix2 (node b i) o) : EReal) * (((16 : ℝ)⁻¹ : ℝ) : EReal) := by
  have hc := sizes_at b
  have h1 := Cert.Scatter.rows_at scatter_S64x128_S1024x1_S1024x128_1_0_0_1 rfl rfl rfl rfl
    (broadcastInDim S64x128 ![] bcast_S_S64x128 (constant (F := Ideal) S_ .f32 0x00000000#32)) (imageColumn (F := Ideal) (images (F := Ideal))) x b o
  have h2 := nodes_sum (fun n => x (ix2 n o)) b
  rw [h2] at h1
  have h4 : (broadcastInDim S64x128 ![] bcast_S_S64x128 (constant (F := Ideal) S_ .f32 0x00000000#32) : Vec Ideal S64x128 .f32) (ix2 b o) = (0 : EReal) := by
    pointwise
  rw [h4, zero_add] at h1
  unfold imageMean
  generalize sizes (F := Ideal) (images (F := Ideal)) = s at hc ⊢
  generalize Host.scatterAdd (F := Ideal) (φ := FTy.f32) scatter_S64x128_S1024x1_S1024x128_1_0_0_1 _ _ _ = t at h1 ⊢
  pointwise
  rw [h1, hc, Ideal.div_coe (by norm_num), one_div]

/-- The classifier, entry by entry. -/
theorem classes_at (x : Vec Ideal S64x128 .f32) (W : Vec Ideal S128x50 .f32) (b' : Vec Ideal S50 .f32) (b : Fin 64) (l : Fin 50) :
    (classes (F := Ideal) x W b' : Vec Ideal S64x50 .f32) (ix2 b l) = ((∑ o : Fin 128, x (ix2 b o) * W (ix2 o l) : EReal) + b' (ix1 l) : EReal) := by
  pointwise [classes]

/-- The reference's graph head, entry by entry. -/
theorem graphHead_at (h : Vec Ideal S1024x4 .f32) (R C : Vec Ideal S7680 .i32) (hR : Names R Cert.Edges.first) (hC : Names C Cert.Edges.second)
    (Wt : Vec Ideal S4x128 .f32) (bt : Vec Ideal S128 .f32) (Wu : Vec Ideal S4x128 .f32) (bu : Vec Ideal S128 .f32)
    (Wg : Vec Ideal S256x128 .f32) (bg : Vec Ideal S128 .f32) (Wc : Vec Ideal S128x50 .f32) (bc : Vec Ideal S50 .f32) (b : Fin 64) (l : Fin 50) :
    (graphHead (F := Ideal) h R C (images (F := Ideal)) Wt bt Wu bu Wg bg Wc bc : Vec Ideal S64x50 .f32) (ix2 b l)
      = head (fun i d => h (ix2 (node b i) d)) (fun d k => Wt (ix2 d k)) (fun k => bt (ix1 k)) (fun d k => Wu (ix2 d k)) (fun k => bu (ix1 k))
          (fun k o => Wg (ix2 k o)) (fun o => bg (ix1 o)) (fun o => Wc (ix2 o l)) (bc (ix1 l)) := by
  have hz : ∀ (j : Fin 16) (k : Fin 256), (joined (F := Ideal) (linear4 (F := Ideal) (mean4 (F := Ideal) h R C) Wt bt) (linear4 (F := Ideal) (mean4 (F := Ideal) h C R) Wu bu) : Vec Ideal S1024x256 .f32) (ix2 (node b j) k)
      = both (fun i d => h (ix2 (node b i) d)) (fun d k => Wt (ix2 d k)) (fun k => bt (ix1 k)) (fun d k => Wu (ix2 d k)) (fun k => bu (ix1 k)) j k := fun j k => by
    rw [joined_at]
    unfold both
    by_cases hk : k.1 < 128
    · rw [dif_pos hk, dif_pos hk]; exact later_at h R C hR hC Wt bt b j _
    · rw [dif_neg hk, dif_neg hk]; exact earlier_at h C R hC hR Wu bu b j _
  unfold graphHead
  rw [classes_at]
  simp only [imageMean_at, second_at _ R C hR hC, hz]
  rfl

end Cert.ReferenceIdeal.Graph

end
-- ==== Proof.RefConv.lean ====
/- The value of the reference's convolution, its clamp and its mean over the plane, laid out as the nodes of the graph. -/
module

public import proofs.«01_k».proof.Proof.RefHead
public import proofs.«01_k».proof.Proof.Math

@[expose] public section

set_option maxRecDepth 16384

noncomputable section

namespace Cert.ReferenceIdeal.Graph

open Cert.ReferenceIdeal Cert.ReferenceIdeal.Gen Cert.ReferenceIdeal.Value
open Idealize.ShloMosaic Idealize.ShloMosaic.TcCoe Idealize.ShloMosaic.Tactic
open Cert.Math

/-- The padded images: each image inside a border of zeros. -/
theorem padded_at (V0 : Valuation τ sig (Elt Ideal)) (x : Vec Ideal S64x3x224x224 .f32) (hx : V0 (Proc.devRef .tc main_arg0) = x)
    (b : Fin 64) (i : Fin 3) (y z : Fin 226) :
    (res_main_v0 V0 : Vec Ideal S64x3x226x226 .f32) (ix4 b i y z) = bordered (fun i y z => x (ix4 b i y z)) i y.1 z.1 := by
  unfold res_main_v0
  rw [hx]
  pointwise
  unfold bordered
  by_cases h : (1 ≤ y.1 ∧ y.1 ≤ 224) ∧ 1 ≤ z.1 ∧ z.1 ≤ 224
  · rw [dif_pos h, dif_pos]
    intro a
    match a with
    | ⟨0, _⟩ => exact ⟨Nat.zero_le _, Nat.mod_one _, by show (b.1 - 0) / 1 < 64; omega⟩
    | ⟨1, _⟩ => exact ⟨Nat.zero_le _, Nat.mod_one _, by show (i.1 - 0) / 1 < 3; omega⟩
    | ⟨2, _⟩ => exact ⟨h.1.1, Nat.mod_one _, by show (y.1 - 1) / 1 < 224; omega⟩
    | ⟨3, _⟩ => exact ⟨h.2.1, Nat.mod_one _, by show (z.1 - 1) / 1 < 224; omega⟩
  · rw [dif_neg h, dif_neg]
    · show ((((0#32 : BitVec 32).toInt : ℝ)) : EReal) = 0
      simp
    · intro q
      have q2 := q ⟨2, by decide⟩
      have q3 := q ⟨3, by decide⟩
      have a2 : 1 ≤ y.1 := q2.1
      have b2 : (y.1 - 1) / 1 < 224 := q2.2.2
      have a3 : 1 ≤ z.1 := q3.1
      have b3 : (z.1 - 1) / 1 < 224 := q3.2.2
      exact h (by omega)

/-- The reference's nine products, summed, are the convolution without its bias. -/
theorem products_at (V0 : Valuation τ sig (Elt Ideal)) (x : Vec Ideal S64x3x224x224 .f32) (hx : V0 (Proc.devRef .tc main_arg0) = x)
    (w : Vec Ideal S64x3x3x3 .f32) (hw : V0 (Proc.devRef .tc main_arg1) = w)
    (b : Fin 64) (o : Fin 64) (y z : Fin 224) :
    (res_main_v55 V0 : Vec Ideal S64x64x224x224 .f32) (ix4 b o y z)
      = ∑ kw : Fin 3, ∑ i : Fin 3, ∑ kh : Fin 3, w (ix4 o i kh kw) * bordered (fun i y z => x (ix4 b i y z)) i (y.1 + kh.1) (z.1 + kw.1) := by
  have hp := padded_at V0 x hx b
  unfold res_main_v55
  rw [hw]
  generalize res_main_v0 V0 = p at hp
  pointwise
  simp only [hp]
  have hs : ∀ f : Fin 3 → Fin 3 → Fin 3 → EReal, (∑ kw : Fin 3, ∑ i : Fin 3, ∑ kh : Fin 3, f i kh kw)
      = (∑ i, f i 0 0) + (∑ i, f i 0 1) + (∑ i, f i 0 2) + (∑ i, f i 1 0) + (∑ i, f i 1 1) + (∑ i, f i 1 2) + (∑ i, f i 2 0) + (∑ i, f i 2 1) + (∑ i, f i 2 2) := fun f => by
    simp only [Fin.sum_univ_three]
    abel
  rw [hs (fun i kh kw => w (ix4 o i kh kw) * bordered (fun i y z => x (ix4 b i y z)) i (y.1 + kh.1) (z.1 + kw.1))]
  simp only [mul_comm (w _), Fin.val_zero, Fin.val_one, Fin.val_two, Nat.add_zero, Nat.add_comm 1, Nat.add_comm 2]

/-- The float constant 50176. -/
theorem area_word : Ideal.ofBits .f32 0x47440000#32 = ((50176 : ℝ) : EReal) := by
  simp [Ideal.ofBits, Ideal.ieee, -EReal.coe_mul]; norm_num

/-- The reference's nodes: feature `d` of node `i` of an image is the mean over the plane of the clamped convolution at channel `4 i + d`. -/
theorem features_at (V0 : Valuation τ sig (Elt Ideal)) (x : Vec Ideal S64x3x224x224 .f32) (hx : V0 (Proc.devRef .tc main_arg0) = x)
    (w : Vec Ideal S64x3x3x3 .f32) (hw : V0 (Proc.devRef .tc main_arg1) = w) (v : Vec Ideal S64 .f32) (hv : V0 (Proc.devRef .tc main_arg2) = v)
    (b : Fin 64) (i : Fin 16) (d : Fin 4) :
    (res_main_v63 V0 : Vec Ideal S1024x4 .f32) (ix2 (node b i) d)
      = poolSum (fun i' y' z' => x (ix4 b i' y' z')) (fun i' kh kw => w (ix4 ⟨i.1 * 4 + d.1, by omega⟩ i' kh kw)) (v (ix1 ⟨i.1 * 4 + d.1, by omega⟩))
          * (((50176 : ℝ)⁻¹ : ℝ) : EReal) := by
  have hp := products_at V0 x hx w hw b
  have hb : ∀ p, (⟨(node b i).1 / 16, p⟩ : Fin 64) = b := fun p => Fin.ext (by dsimp only [node]; omega)
  have ho : ∀ p, (⟨(node b i).1 % 16 * 4 + d.1, p⟩ : Fin 64) = ⟨i.1 * 4 + d.1, by omega⟩ := fun p => Fin.ext (by dsimp only [node]; omega)
  unfold res_main_v63
  rw [hv]
  generalize res_main_v55 V0 = s at hp
  generalize node b i = n at hb ho
  pointwise
  simp only [hb, ho, hp]
  rw [area_word, Ideal.div_coe (by norm_num), one_div]
  rfl

end Cert.ReferenceIdeal.Graph

end
-- ==== Proof.RefResult.lean ====
/- The value of the whole reference at one output entry, in the arguments: the head of the graph of the pooled convolution. -/
module

public import proofs.«01_k».proof.Proof.RefConv

@[expose] public section

set_option maxRecDepth 16384

noncomputable section

namespace Cert.ReferenceIdeal.Graph

open Cert.ReferenceIdeal Cert.ReferenceIdeal.Gen Cert.ReferenceIdeal.Value
open Idealize.ShloMosaic Idealize.ShloMosaic.TcCoe Idealize.ShloMosaic.Tactic Idealize.ShloMosaic.StableHlo
open Idealize.SL.Sem
open Cert.Math

/-- What the reference leaves, as its graph head of its nodes. -/
def result (V0 : Valuation τ sig (Elt Ideal)) : Vec Ideal S64x50 .f32 :=
  graphHead (F := Ideal) (res_main_v63 V0) (ends (F := Ideal) (firsts (F := Ideal))) (ends (F := Ideal) (seconds (F := Ideal))) (images (F := Ideal))
    (V0 (Proc.devRef .tc main_arg3)) (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9)) (V0 (Proc.devRef .tc main_arg10))

/-- What the reference leaves at image `b` and class `l`. -/
theorem result_at (V0 : Valuation τ sig (Elt Ideal)) (x : Vec Ideal S64x3x224x224 .f32) (hx : V0 (Proc.devRef .tc main_arg0) = x)
    (w : Vec Ideal S64x3x3x3 .f32) (hw : V0 (Proc.devRef .tc main_arg1) = w) (y : Vec Ideal S64 .f32) (hy : V0 (Proc.devRef .tc main_arg2) = y)
    (Wt : Vec Ideal S4x128 .f32) (hWt : V0 (Proc.devRef .tc main_arg3) = Wt) (bt : Vec Ideal S128 .f32) (hbt : V0 (Proc.devRef .tc main_arg4) = bt)
    (Wu : Vec Ideal S4x128 .f32) (hWu : V0 (Proc.devRef .tc main_arg5) = Wu) (bu : Vec Ideal S128 .f32) (hbu : V0 (Proc.devRef .tc main_arg6) = bu)
    (Wg : Vec Ideal S256x128 .f32) (hWg : V0 (Proc.devRef .tc main_arg7) = Wg) (bg : Vec Ideal S128 .f32) (hbg : V0 (Proc.devRef .tc main_arg8) = bg)
    (Wc : Vec Ideal S128x50 .f32) (hWc : V0 (Proc.devRef .tc main_arg9) = Wc) (bc : Vec Ideal S50 .f32) (hbc : V0 (Proc.devRef .tc main_arg10) = bc)
    (b : Fin 64) (l : Fin 50) :
    result V0 (ix2 b l)
      = head (fun i d => poolSum (fun i' y' z' => x (ix4 b i' y' z')) (fun i' kh kw => w (ix4 ⟨i.1 * 4 + d.1, by omega⟩ i' kh kw)) (y (ix1 ⟨i.1 * 4 + d.1, by omega⟩)) * ((50176⁻¹ : ℝ) : EReal))
          (fun d k => Wt (ix2 d k)) (fun k => bt (ix1 k)) (fun d k => Wu (ix2 d k)) (fun k => bu (ix1 k)) (fun k o => Wg (ix2 k o)) (fun o => bg (ix1 o))
          (fun o => Wc (ix2 o l)) (bc (ix1 l)) := by
  unfold result
  rw [hWt, hbt, hWu, hbu, hWg, hbg, hWc, hbc, graphHead_at _ _ _ names_firsts names_seconds]
  simp only [features_at V0 x hx w hw y hy b]

/-- Every execution of the reference leaves `result` of its arguments, and its arguments unchanged. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v164) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run (defs (F := Ideal)) _ _).mono (fun _ h c => ⟨(h c).1.trans ?_, (h c).2⟩) (Cert.ReferenceIdeal.Value.run (F := Ideal) m ρ)
  generalize launchContents m c = V0
  rw [second_eq, images_eq, firsts_eq, seconds_eq]
  rfl

end Cert.ReferenceIdeal.Graph

end
-- ==== Proof.Equation.lean ====
/- The equation: from equal arguments the idealized kernel and the idealized reference leave the same result. -/
module

public import proofs.«01_k».proof.Proof.KernelResult
public import proofs.«01_k».proof.Proof.RefResult

@[expose] public section

set_option maxRecDepth 16384

noncomputable section

namespace Cert.Equation

open Idealize.ShloMosaic

/-- The reference's result is the kernel's, when the arguments agree. -/
theorem results_eq (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (V0 : Valuation Cert.ReferenceIdeal.τ Cert.ReferenceIdeal.sig (Elt Ideal))
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (h2 : V0 (Proc.devRef .tc Cert.ReferenceIdeal.main_arg2) = m ((c.tc : Thread Cert.KernelIdeal.nD Cert.KernelIdeal.τ).loc Cert.KernelIdeal.main_arg2))
    (h3 : V0 (Proc.devRef .tc Cert.ReferenceIdeal.main_arg3) = m ((c.tc : Thread Cert.KernelIdeal.nD Cert.KernelIdeal.τ).loc Cert.KernelIdeal.main_arg3))
    (h4 : V0 (Proc.devRef .tc Cert.ReferenceIdeal.main_arg4) = m ((c.tc : Thread Cert.KernelIdeal.nD Cert.KernelIdeal.τ).loc Cert.KernelIdeal.main_arg4))
    (h5 : V0 (Proc.devRef .tc Cert.ReferenceIdeal.main_arg5) = m ((c.tc : Thread Cert.KernelIdeal.nD Cert.KernelIdeal.τ).loc Cert.KernelIdeal.main_arg5))
    (h6 : V0 (Proc.devRef .tc Cert.ReferenceIdeal.main_arg6) = m ((c.tc : Thread Cert.KernelIdeal.nD Cert.KernelIdeal.τ).loc Cert.KernelIdeal.main_arg6))
    (h7 : V0 (Proc.devRef .tc Cert.ReferenceIdeal.main_arg7) = m ((c.tc : Thread Cert.KernelIdeal.nD Cert.KernelIdeal.τ).loc Cert.KernelIdeal.main_arg7))
    (h8 : V0 (Proc.devRef .tc Cert.ReferenceIdeal.main_arg8) = m ((c.tc : Thread Cert.KernelIdeal.nD Cert.KernelIdeal.τ).loc Cert.KernelIdeal.main_arg8))
    (h9 : V0 (Proc.devRef .tc Cert.ReferenceIdeal.main_arg9) = m ((c.tc : Thread Cert.KernelIdeal.nD Cert.KernelIdeal.τ).loc Cert.KernelIdeal.main_arg9))
    (h10 : V0 (Proc.devRef .tc Cert.ReferenceIdeal.main_arg10) = m ((c.tc : Thread Cert.KernelIdeal.nD Cert.KernelIdeal.τ).loc Cert.KernelIdeal.main_arg10)) :
    Cert.ReferenceIdeal.Graph.result V0 = Cert.KernelIdeal.Full.W13 m ρ c (Proc.devRef .tc Cert.KernelIdeal.main_v54) := by
  have hk := fun b l => Cert.KernelIdeal.Graph.result_at m ρ c _ rfl _ rfl _ rfl _ rfl _ rfl _ rfl _ rfl _ rfl _ rfl _ rfl _ rfl b l
  have hr := fun b l => Cert.ReferenceIdeal.Graph.result_at V0 _ h0 _ h1 _ h2 _ h3 _ h4 _ h5 _ h6 _ h7 _ h8 _ h9 _ h10 b l
  generalize Cert.KernelIdeal.Full.W13 m ρ c (Proc.devRef .tc Cert.KernelIdeal.main_v54) = k at hk ⊢
  generalize Cert.ReferenceIdeal.Graph.result V0 = r at hr ⊢
  funext j
  obtain ⟨b, l, rfl⟩ : ∃ (b : Fin 64) (l : Fin 50), j = ix2 b l := ⟨j 0, j 1, eq_ix2 j⟩
  exact (hr b l).trans (hk b l).symm

end Cert.Equation

end
-- ==== Proof.lean ====
/- The assembly: the three frames, the named constant's value, and the equation of the two idealized programs. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelRun
public import proofs.«01_k».proof.Proof.KernelIdealRun
public import proofs.«01_k».proof.Proof.RefRun
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- Every execution of the kernel program ends with its arguments unchanged and every counter at zero. -/
theorem frame_p : Cert.quiescent_Kernel (hKernel := Cert.Kernel.Gen.facts) :=
  fun m ρ _ => (θ_run Cert.Kernel.defs _ _).mono (fun _ h => ⟨h.1, h.2.2⟩) (Cert.Kernel.Full.run_main m ρ)

/-- The same of the idealized kernel program. -/
theorem frame_pi : Cert.quiescent_KernelIdeal (hKernelIdeal := Cert.KernelIdeal.Gen.facts) :=
  fun m ρ _ => (θ_run Cert.KernelIdeal.defs _ _).mono (fun _ h => ⟨h.1, h.2.2⟩) (Cert.KernelIdeal.Full.run_main m ρ)

/-- Every execution of the idealized reference ends with its arguments unchanged and every counter at zero. -/
theorem frame_ri : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩)
    (Cert.ReferenceIdeal.Value.run (F := Ideal) m ρ)

/-- The named constant is one over the number of points of the plane. -/
theorem preserves : Cert.preserves_Kernel_KernelIdeal :=
  IdealRules.named_const.statement Cert.KernelIdeal.κ "inv_hw" .f32 0x37A72F05#32 ((50176⁻¹ : ℝ) : EReal) rfl

/-- From equal arguments the idealized kernel and the idealized reference both run, leave equal results and keep their arguments. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.Full.W13 m ρ c (Proc.devRef .tc Cert.KernelIdeal.main_v54),
    (θ_run Cert.KernelIdeal.defs _ _).mono (fun _ h c => ⟨h.2.1 c, h.1 c⟩) (Cert.KernelIdeal.Full.run_main m ρ), ?_⟩
  refine (θ_run Cert.ReferenceIdeal.defs _ _).mono (fun _ h c => ⟨(h c).1.trans ?_, (h c).2⟩) (Cert.ReferenceIdeal.Graph.run_result m' ρ')
  obtain ⟨h0, h1, h2, h3, h4, h5, h6, h7, h8, h9, h10⟩ := hagree c
  exact Cert.Equation.results_eq m ρ c _ h0 h1 h2 h3 h4 h5 h6 h7 h8 h9 h10

/-- The claims of this certificate. -/
theorem claim : Cert.Claim :=
  ⟨Cert.Kernel.Gen.facts, Cert.KernelIdeal.Gen.facts, Cert.ReferenceIdeal.Gen.facts, frame_p, frame_pi, frame_ri, preserves, algebraic⟩

end Cert.Proof

end
